-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "third" .bf16 0x3EAB#16 ((1 / 3 : ℝ) : EReal)
  ∧ IdealRules.named_const.Statement Cert.KernelIdeal.κ "eps" .bf16 0x3728#16 ((2748779 / 274877906944 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def holds_KernelIdeal_near_exact_pre_finite [hKernelIdeal : Cert.KernelIdeal.Facts] [hPre_finite : Cert.Pre_finite.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (r.2.mem ((c.tc : Thread Cert.KernelIdeal.nD Cert.KernelIdeal.τ).loc Cert.KernelIdeal.main_v10))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near_exact : Cert.Post_near_exact.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near_exact_pre_finite (hKernelIdeal := hKernelIdeal) (hPre_finite := hPre_finite) (hPost_near_exact := hPost_near_exact)
-- ==== Post_near_exact.lean ====
abbrev S8x16x16x16x16 : Shape := ⟨5, ![8, 16, 16, 16, 16]⟩
abbrev S14x14x14x432x16 : Shape := ⟨5, ![14, 14, 14, 432, 16]⟩
abbrev S16 : Shape := ⟨1, ![16]⟩
abbrev S8x1x1x1x16 : Shape := ⟨5, ![8, 1, 1, 1, 16]⟩
abbrev S8x14x14x14x16 : Shape := ⟨5, ![8, 14, 14, 14, 16]⟩
abbrev S_ : Shape := ⟨0, ![]⟩
abbrev S8x14x16x16x16 : Shape := ⟨5, ![8, 14, 16, 16, 16]⟩
abbrev S8x14x14x14x144 : Shape := ⟨5, ![8, 14, 14, 14, 144]⟩
abbrev S8x14x14x14x432 : Shape := ⟨5, ![8, 14, 14, 14, 432]⟩
abbrev S14x14x14x16x8 : Shape := ⟨5, ![14, 14, 14, 16, 8]⟩
abbrev S1x1x1x1x16 : Shape := ⟨5, ![1, 1, 1, 1, 16]⟩

class Facts : Prop where
  bcast_S_S14x14x14x432x16 : S_.BroadcastsInDim S14x14x14x432x16 (![] : Fin 0 → Fin S14x14x14x432x16.rank)
  bcast_S8x1x1x1x16_S8x16x16x16x16_0_1_2_3_4 : S8x1x1x1x16.BroadcastsInDim S8x16x16x16x16 (![0, 1, 2, 3, 4] : Fin 5 → Fin S8x16x16x16x16.rank)
  slices_S8x16x16x16x16_S8x14x16x16x16_0_0_0_0_0 : S8x16x16x16x16.Slices ![0, 0, 0, 0, 0] S8x14x16x16x16
  slices_S8x14x16x16x16_S8x14x14x14x16_0_0_0_0_0 : S8x14x16x16x16.Slices ![0, 0, 0, 0, 0] S8x14x14x14x16
  slices_S8x14x16x16x16_S8x14x14x14x16_0_0_0_1_0 : S8x14x16x16x16.Slices ![0, 0, 0, 1, 0] S8x14x14x14x16
  slices_S8x14x16x16x16_S8x14x14x14x16_0_0_0_2_0 : S8x14x16x16x16.Slices ![0, 0, 0, 2, 0] S8x14x14x14x16
  slices_S8x14x16x16x16_S8x14x14x14x16_0_0_1_0_0 : S8x14x16x16x16.Slices ![0, 0, 1, 0, 0] S8x14x14x14x16
  slices_S8x14x16x16x16_S8x14x14x14x16_0_0_1_1_0 : S8x14x16x16x16.Slices ![0, 0, 1, 1, 0] S8x14x14x14x16
  slices_S8x14x16x16x16_S8x14x14x14x16_0_0_1_2_0 : S8x14x16x16x16.Slices ![0, 0, 1, 2, 0] S8x14x14x14x16
  slices_S8x14x16x16x16_S8x14x14x14x16_0_0_2_0_0 : S8x14x16x16x16.Slices ![0, 0, 2, 0, 0] S8x14x14x14x16
  slices_S8x14x16x16x16_S8x14x14x14x16_0_0_2_1_0 : S8x14x16x16x16.Slices ![0, 0, 2, 1, 0] S8x14x14x14x16
  slices_S8x14x16x16x16_S8x14x14x14x16_0_0_2_2_0 : S8x14x16x16x16.Slices ![0, 0, 2, 2, 0] S8x14x14x14x16
  concatenates_S8x14x14x14x16_S8x14x14x14x16_S8x14x14x14x16_S8x14x14x14x16_S8x14x14x14x16_S8x14x14x14x16_S8x14x14x14x16_S8x14x14x14x16_S8x14x14x14x16_S8x14x14x14x144_d4 : Shape.Concatenates [S8x14x14x14x16, S8x14x14x14x16, S8x14x14x14x16, S8x14x14x14x16, S8x14x14x14x16, S8x14x14x14x16, S8x14x14x14x16, S8x14x14x14x16, S8x14x14x14x16] S8x14x14x14x144 4
  slices_S8x16x16x16x16_S8x14x16x16x16_0_1_0_0_0 : S8x16x16x16x16.Slices ![0, 1, 0, 0, 0] S8x14x16x16x16
  slices_S8x16x16x16x16_S8x14x16x16x16_0_2_0_0_0 : S8x16x16x16x16.Slices ![0, 2, 0, 0, 0] S8x14x16x16x16
  concatenates_S8x14x14x14x144_S8x14x14x14x144_S8x14x14x14x144_S8x14x14x14x432_d4 : Shape.Concatenates [S8x14x14x14x144, S8x14x14x14x144, S8x14x14x14x144] S8x14x14x14x432 4
  transposes_S14x14x14x16x8_S8x14x14x14x16_4_0_1_2_3 : S14x14x14x16x8.Transposes [4, 0, 1, 2, 3] S8x14x14x14x16
  bcast_S8x1x1x1x16_S8x14x14x14x16_0_1_2_3_4 : S8x1x1x1x16.BroadcastsInDim S8x14x14x14x16 (![0, 1, 2, 3, 4] : Fin 5 → Fin S8x14x14x14x16.rank)
  bcast_S16_S1x1x1x1x16_4 : S16.BroadcastsInDim S1x1x1x1x16 (![4] : Fin 1 → Fin S1x1x1x1x16.rank)
  bcast_S1x1x1x1x16_S8x14x14x14x16_0_1_2_3_4 : S1x1x1x1x16.BroadcastsInDim S8x14x14x14x16 (![0, 1, 2, 3, 4] : Fin 5 → Fin S8x14x14x14x16.rank)
  dot_S14x14x14x432x16_S8x14x14x14x432_S14x14x14x16x8_3_4_4_0_012_123_wf : DotDims.WF S14x14x14x432x16 S8x14x14x14x432 S14x14x14x16x8 [3] [4] [4] [0] [0, 1, 2] [1, 2, 3]

variable [Facts]

def dot_S14x14x14x432x16_S8x14x14x14x432_S14x14x14x16x8_3_4_4_0_012_123 : DotDims S14x14x14x432x16 S8x14x14x14x432 S14x14x14x16x8 where
  lhsContracting := [3]
  rhsContracting := [4]
  lhsNonContracting := [4]
  rhsNonContracting := [0]
  lhsBatch := [0, 1, 2]
  rhsBatch := [1, 2, 3]
  wf := dot_S14x14x14x432x16_S8x14x14x14x432_S14x14x14x16x8_3_4_4_0_012_123_wf
def fn_plane {F : FTy → Type} [FloatOps F] (arg0 : FVec F S8x14x16x16x16 .f32) : FVec F S8x14x14x14x144 .f32 :=
  let v0 : FVec F S8x14x14x14x16 .f32 := (extractStridedSlice S8x14x14x14x16 ![0, 0, 0, 0, 0] · slices_S8x14x16x16x16_S8x14x14x14x16_0_0_0_0_0) arg0
  let v1 : FVec F S8x14x14x14x16 .f32 := (extractStridedSlice S8x14x14x14x16 ![0, 0, 0, 1, 0] · slices_S8x14x16x16x16_S8x14x14x14x16_0_0_0_1_0) arg0
  let v2 : FVec F S8x14x14x14x16 .f32 := (extractStridedSlice S8x14x14x14x16 ![0, 0, 0, 2, 0] · slices_S8x14x16x16x16_S8x14x14x14x16_0_0_0_2_0) arg0
  let v3 : FVec F S8x14x14x14x16 .f32 := (extractStridedSlice S8x14x14x14x16 ![0, 0, 1, 0, 0] · slices_S8x14x16x16x16_S8x14x14x14x16_0_0_1_0_0) arg0
  let v4 : FVec F S8x14x14x14x16 .f32 := (extractStridedSlice S8x14x14x14x16 ![0, 0, 1, 1, 0] · slices_S8x14x16x16x16_S8x14x14x14x16_0_0_1_1_0) arg0
  let v5 : FVec F S8x14x14x14x16 .f32 := (extractStridedSlice S8x14x14x14x16 ![0, 0, 1, 2, 0] · slices_S8x14x16x16x16_S8x14x14x14x16_0_0_1_2_0) arg0
  let v6 : FVec F S8x14x14x14x16 .f32 := (extractStridedSlice S8x14x14x14x16 ![0, 0, 2, 0, 0] · slices_S8x14x16x16x16_S8x14x14x14x16_0_0_2_0_0) arg0
  let v7 : FVec F S8x14x14x14x16 .f32 := (extractStridedSlice S8x14x14x14x16 ![0, 0, 2, 1, 0] · slices_S8x14x16x16x16_S8x14x14x14x16_0_0_2_1_0) arg0
  let v8 : FVec F S8x14x14x14x16 .f32 := (extractStridedSlice S8x14x14x14x16 ![0, 0, 2, 2, 0] · slices_S8x14x16x16x16_S8x14x14x14x16_0_0_2_2_0) arg0
  let v9 : FVec F S8x14x14x14x144 .f32 := concatenate S8x14x14x14x144 4 [⟨S8x14x14x14x16, v0⟩, ⟨S8x14x14x14x16, v1⟩, ⟨S8x14x14x14x16, v2⟩, ⟨S8x14x14x14x16, v3⟩, ⟨S8x14x14x14x16, v4⟩, ⟨S8x14x14x14x16, v5⟩, ⟨S8x14x14x14x16, v6⟩, ⟨S8x14x14x14x16, v7⟩, ⟨S8x14x14x14x16, v8⟩] concatenates_S8x14x14x14x16_S8x14x14x14x16_S8x14x14x14x16_S8x14x14x14x16_S8x14x14x14x16_S8x14x14x14x16_S8x14x14x14x16_S8x14x14x14x16_S8x14x14x14x16_S8x14x14x14x144_d4
  v9

def fn_conv {F : FTy → Type} [FloatOps F] (arg0 : FVec F S8x16x16x16x16 .f32) (arg1 : FVec F S14x14x14x432x16 .f32) : FVec F S8x14x14x14x16 .f32 :=
  let v0 : FVec F S8x14x16x16x16 .f32 := (extractStridedSlice S8x14x16x16x16 ![0, 0, 0, 0, 0] · slices_S8x16x16x16x16_S8x14x16x16x16_0_0_0_0_0) arg0
  let v1 : FVec F S8x14x14x14x144 .f32 := fn_plane (F := F) v0
  let v2 : FVec F S8x14x16x16x16 .f32 := (extractStridedSlice S8x14x16x16x16 ![0, 1, 0, 0, 0] · slices_S8x16x16x16x16_S8x14x16x16x16_0_1_0_0_0) arg0
  let v3 : FVec F S8x14x14x14x144 .f32 := fn_plane (F := F) v2
  let v4 : FVec F S8x14x16x16x16 .f32 := (extractStridedSlice S8x14x16x16x16 ![0, 2, 0, 0, 0] · slices_S8x16x16x16x16_S8x14x16x16x16_0_2_0_0_0) arg0
  let v5 : FVec F S8x14x14x14x144 .f32 := fn_plane (F := F) v4
  let v6 : FVec F S8x14x14x14x432 .f32 := concatenate S8x14x14x14x432 4 [⟨S8x14x14x14x144, v1⟩, ⟨S8x14x14x14x144, v3⟩, ⟨S8x14x14x14x144, v5⟩] concatenates_S8x14x14x14x144_S8x14x14x14x144_S8x14x14x14x144_S8x14x14x14x432_d4
  let v7 : FVec F S14x14x14x16x8 .f32 := (fun l r => Host.dotGeneral dot_S14x14x14x432x16_S8x14x14x14x432_S14x14x14x16x8_3_4_4_0_012_123 none l r) arg1 v6
  let v8 : FVec F S8x14x14x14x16 .f32 := (transpose S8x14x14x14x16 [4, 0, 1, 2, 3] · transposes_S14x14x14x16x8_S8x14x14x14x16_4_0_1_2_3) v7
  v8

def fn_softplus {F : FTy → Type} [FloatOps F] (arg0 : FVec F S14x14x14x432x16 .f32) : FVec F S14x14x14x432x16 .f32 :=
  let cst : FVec F S_ .f32 := constant S_ .f32 0x00000000#32
  let v0 : FVec F S14x14x14x432x16 .f32 := broadcastInDim S14x14x14x432x16 ![] bcast_S_S14x14x14x432x16 cst
  let v1 : FVec F S14x14x14x432x16 .f32 := maximumf arg0 v0
  let v2 : FVec F S14x14x14x432x16 .f32 := broadcastInDim S14x14x14x432x16 ![] bcast_S_S14x14x14x432x16 cst
  let v3 : FVec F S14x14x14x432x16 .f32 := subf arg0 v2
  let v4 : IVec S14x14x14x432x16 1 := cmpf .une v3 v3
  let v5 : FVec F S14x14x14x432x16 .f32 := broadcastInDim S14x14x14x432x16 ![] bcast_S_S14x14x14x432x16 cst
  let v6 : FVec F S14x14x14x432x16 .f32 := addf arg0 v5
  let v7 : FVec F S14x14x14x432x16 .f32 := Host.absf v3
  let v8 : FVec F S14x14x14x432x16 .f32 := Host.negf v7
  let v9 : FVec F S14x14x14x432x16 .f32 := Host.exp v8
  let v10 : FVec F S14x14x14x432x16 .f32 := Host.log1p v9
  let v11 : FVec F S14x14x14x432x16 .f32 := addf v1 v10
  let v12 : FVec F S14x14x14x432x16 .f32 := select v4 v6 v11
  v12

def fn_conv_0 {F : FTy → Type} [FloatOps F] (arg0 : FVec F S8x16x16x16x16 .f32) (arg1 : FVec F S14x14x14x432x16 .f32) : FVec F S8x14x14x14x16 .f32 :=
  let v0 : FVec F S8x14x16x16x16 .f32 := (extractStridedSlice S8x14x16x16x16 ![0, 0, 0, 0, 0] · slices_S8x16x16x16x16_S8x14x16x16x16_0_0_0_0_0) arg0
  let v1 : FVec F S8x14x14x14x144 .f32 := fn_plane (F := F) v0
  let v2 : FVec F S8x14x16x16x16 .f32 := (extractStridedSlice S8x14x16x16x16 ![0, 1, 0, 0, 0] · slices_S8x16x16x16x16_S8x14x16x16x16_0_1_0_0_0) arg0
  let v3 : FVec F S8x14x14x14x144 .f32 := fn_plane (F := F) v2
  let v4 : FVec F S8x14x16x16x16 .f32 := (extractStridedSlice S8x14x16x16x16 ![0, 2, 0, 0, 0] · slices_S8x16x16x16x16_S8x14x16x16x16_0_2_0_0_0) arg0
  let v5 : FVec F S8x14x14x14x144 .f32 := fn_plane (F := F) v4
  let v6 : FVec F S8x14x14x14x432 .f32 := concatenate S8x14x14x14x432 4 [⟨S8x14x14x14x144, v1⟩, ⟨S8x14x14x14x144, v3⟩, ⟨S8x14x14x14x144, v5⟩] concatenates_S8x14x14x14x144_S8x14x14x14x144_S8x14x14x14x144_S8x14x14x14x432_d4
  let v7 : FVec F S14x14x14x16x8 .f32 := (fun l r => Host.dotGeneral dot_S14x14x14x432x16_S8x14x14x14x432_S14x14x14x16x8_3_4_4_0_012_123 none l r) arg1 v6
  let v8 : FVec F S8x14x14x14x16 .f32 := (transpose S8x14x14x14x16 [4, 0, 1, 2, 3] · transposes_S14x14x14x16x8_S8x14x14x14x16_4_0_1_2_3) v7
  v8

def fn_part1 {F : FTy → Type} [FloatOps F] (main_arg3 : FVec F S16 .f32) (main_arg6 : FVec F S8x1x1x1x16 .f32) (main_arg7 : FVec F S8x14x14x14x16 .f32) (main_v14 : FVec F S8x14x14x14x16 .f32) (main_v18 : FVec F S8x14x14x14x16 .f32) (main_v19 : FVec F S14x14x14x432x16 .f32) (main_v21 : FVec F S8x16x16x16x16 .f32) : IVec S8x14x14x14x16 1 :=
  let main_v22 : FVec F S8x14x14x14x16 .f32 := fn_conv (F := F) main_v21 main_v19
  let main_v23 : FVec F S8x14x14x14x16 .f32 := broadcastInDim S8x14x14x14x16 ![0, 1, 2, 3, 4] bcast_S8x1x1x1x16_S8x14x14x14x16_0_1_2_3_4 main_arg6
  let main_v24 : FVec F S8x14x14x14x16 .f32 := mulf main_v22 main_v23
  let main_v25 : FVec F S8x14x14x14x16 .f32 := addf main_v18 main_v24
  let main_v26 : FVec F S1x1x1x1x16 .f32 := broadcastInDim S1x1x1x1x16 ![4] bcast_S16_S1x1x1x1x16_4 main_arg3
  let main_v27 : FVec F S8x14x14x14x16 .f32 := broadcastInDim S8x14x14x14x16 ![0, 1, 2, 3, 4] bcast_S1x1x1x1x16_S8x14x14x14x16_0_1_2_3_4 main_v26
  let main_v28 : FVec F S8x14x14x14x16 .f32 := addf main_v25 main_v27
  let main_v29 : FVec F S8x14x14x14x16 .f32 := subf main_arg7 main_v28
  let main_v30 : FVec F S8x14x14x14x16 .f32 := Host.absf main_v29
  let main_v31 : IVec S8x14x14x14x16 1 := cmpf .ole main_v30 main_v14
  main_v31

def fn {F : FTy → Type} [FloatOps F] (main_arg0 : FVec F S8x16x16x16x16 .f32) (main_arg1 : FVec F S14x14x14x432x16 .f32) (main_arg2 : FVec F S14x14x14x432x16 .f32) (main_arg3 : FVec F S16 .f32) (main_arg4 : FVec F S14x14x14x432x16 .f32) (main_arg5 : FVec F S8x1x1x1x16 .f32) (main_arg6 : FVec F S8x1x1x1x16 .f32) (main_arg7 : FVec F S8x14x14x14x16 .f32) : IVec S8x14x14x14x16 1 :=
  let main_v0 : FVec F S14x14x14x432x16 .f32 := Host.exp main_arg2
  let main_v1 : FVec F S14x14x14x432x16 .f32 := mulf main_v0 main_v0
  let main_v2 : FVec F S14x14x14x432x16 .f32 := mulf main_v1 main_v0
  let main_v3 : FVec F S14x14x14x432x16 .f32 := mulf main_v2 main_v0
  let main_cst : FVec F S_ .f32 := constant S_ .f32 0x40800000#32
  let main_v4 : FVec F S14x14x14x432x16 .f32 := broadcastInDim S14x14x14x432x16 ![] bcast_S_S14x14x14x432x16 main_cst
  let main_v5 : FVec F S14x14x14x432x16 .f32 := Host.divf main_v3 main_v4
  let main_v6 : FVec F S8x16x16x16x16 .f32 := broadcastInDim S8x16x16x16x16 ![0, 1, 2, 3, 4] bcast_S8x1x1x1x16_S8x16x16x16x16_0_1_2_3_4 main_arg5
  let main_v7 : FVec F S8x16x16x16x16 .f32 := mulf main_arg0 main_v6
  let main_v8 : FVec F S8x16x16x16x16 .f32 := Host.absf main_v7
  let main_v9 : FVec F S14x14x14x432x16 .f32 := Host.absf main_arg4
  let main_v10 : FVec F S14x14x14x432x16 .f32 := mulf main_v5 main_v9
  let main_v11 : FVec F S8x14x14x14x16 .f32 := fn_conv (F := F) main_v8 main_v10
  let main_v12 : FVec F S8x1x1x1x16 .f32 := Host.absf main_arg6
  let main_v13 : FVec F S8x14x14x14x16 .f32 := broadcastInDim S8x14x14x14x16 ![0, 1, 2, 3, 4] bcast_S8x1x1x1x16_S8x14x14x14x16_0_1_2_3_4 main_v12
  let main_v14 : FVec F S8x14x14x14x16 .f32 := mulf main_v11 main_v13
  let main_v15 : FVec F S14x14x14x432x16 .f32 := fn_softplus (F := F) main_arg2
  let main_cst_0 : FVec F S_ .f32 := constant S_ .f32 0x3727C5AC#32
  let main_v16 : FVec F S14x14x14x432x16 .f32 := broadcastInDim S14x14x14x432x16 ![] bcast_S_S14x14x14x432x16 main_cst_0
  let main_v17 : FVec F S14x14x14x432x16 .f32 := addf main_v16 main_v15
  let main_v18 : FVec F S8x14x14x14x16 .f32 := fn_conv_0 (F := F) main_arg0 main_arg1
  let main_v19 : FVec F S14x14x14x432x16 .f32 := mulf main_v17 main_arg4
  let main_v20 : FVec F S8x16x16x16x16 .f32 := broadcastInDim S8x16x16x16x16 ![0, 1, 2, 3, 4] bcast_S8x1x1x1x16_S8x16x16x16x16_0_1_2_3_4 main_arg5
  let main_v21 : FVec F S8x16x16x16x16 .f32 := mulf main_arg0 main_v20
  fn_part1 (F := F) main_arg3 main_arg6 main_arg7 main_v14 main_v18 main_v19 main_v21
-- ==== Pre_finite.lean ====
abbrev S8x16x16x16x16 : Shape := ⟨5, ![8, 16, 16, 16, 16]⟩
abbrev S14x14x14x432x16 : Shape := ⟨5, ![14, 14, 14, 432, 16]⟩
abbrev S16 : Shape := ⟨1, ![16]⟩
abbrev S8x1x1x1x16 : Shape := ⟨5, ![8, 1, 1, 1, 16]⟩
abbrev S_ : Shape := ⟨0, ![]⟩

class Facts : Prop where
  bcast_S_S8x16x16x16x16 : S_.BroadcastsInDim S8x16x16x16x16 (![] : Fin 0 → Fin S8x16x16x16x16.rank)
  bcast_S_S14x14x14x432x16 : S_.BroadcastsInDim S14x14x14x432x16 (![] : Fin 0 → Fin S14x14x14x432x16.rank)
  bcast_S_S16 : S_.BroadcastsInDim S16 (![] : Fin 0 → Fin S16.rank)
  bcast_S_S8x1x1x1x16 : S_.BroadcastsInDim S8x1x1x1x16 (![] : Fin 0 → Fin S8x1x1x1x16.rank)

variable [Facts]

def fn_part1 {F : FTy → Type} [FloatOps F] (main_arg6 : FVec F S8x1x1x1x16 .f32) (main_v2 : IVec S8x16x16x16x16 1) (main_v5 : IVec S14x14x14x432x16 1) (main_v8 : IVec S14x14x14x432x16 1) (main_v11 : IVec S16 1) (main_v14 : IVec S14x14x14x432x16 1) (main_v17 : IVec S8x1x1x1x16 1) : IVec S8x16x16x16x16 1 × IVec S14x14x14x432x16 1 × IVec S14x14x14x432x16 1 × IVec S16 1 × IVec S14x14x14x432x16 1 × IVec S8x1x1x1x16 1 × IVec S8x1x1x1x16 1 :=
  let main_v18 : FVec F S8x1x1x1x16 .f32 := Host.absf main_arg6
  let main_cst_5 : FVec F S_ .f32 := constant S_ .f32 0x7F800000#32
  let main_v19 : FVec F S8x1x1x1x16 .f32 := broadcastInDim S8x1x1x1x16 ![] bcast_S_S8x1x1x1x16 main_cst_5
  let main_v20 : IVec S8x1x1x1x16 1 := cmpf .olt main_v18 main_v19
  (main_v2, main_v5, main_v8, main_v11, main_v14, main_v17, main_v20)

def fn {F : FTy → Type} [FloatOps F] (main_arg0 : FVec F S8x16x16x16x16 .f32) (main_arg1 : FVec F S14x14x14x432x16 .f32) (main_arg2 : FVec F S14x14x14x432x16 .f32) (main_arg3 : FVec F S16 .f32) (main_arg4 : FVec F S14x14x14x432x16 .f32) (main_arg5 : FVec F S8x1x1x1x16 .f32) (main_arg6 : FVec F S8x1x1x1x16 .f32) : IVec S8x16x16x16x16 1 × IVec S14x14x14x432x16 1 × IVec S14x14x14x432x16 1 × IVec S16 1 × IVec S14x14x14x432x16 1 × IVec S8x1x1x1x16 1 × IVec S8x1x1x1x16 1 :=
  let main_v0 : FVec F S8x16x16x16x16 .f32 := Host.absf main_arg0
  let main_cst : FVec F S_ .f32 := constant S_ .f32 0x7F800000#32
  let main_v1 : FVec F S8x16x16x16x16 .f32 := broadcastInDim S8x16x16x16x16 ![] bcast_S_S8x16x16x16x16 main_cst
  let main_v2 : IVec S8x16x16x16x16 1 := cmpf .olt main_v0 main_v1
  let main_v3 : FVec F S14x14x14x432x16 .f32 := Host.absf main_arg1
  let main_cst_0 : FVec F S_ .f32 := constant S_ .f32 0x7F800000#32
  let main_v4 : FVec F S14x14x14x432x16 .f32 := broadcastInDim S14x14x14x432x16 ![] bcast_S_S14x14x14x432x16 main_cst_0
  let main_v5 : IVec S14x14x14x432x16 1 := cmpf .olt main_v3 main_v4
  let main_v6 : FVec F S14x14x14x432x16 .f32 := Host.absf main_arg2
  let main_cst_1 : FVec F S_ .f32 := constant S_ .f32 0x7F800000#32
  let main_v7 : FVec F S14x14x14x432x16 .f32 := broadcastInDim S14x14x14x432x16 ![] bcast_S_S14x14x14x432x16 main_cst_1
  let main_v8 : IVec S14x14x14x432x16 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S14x14x14x432x16 .f32 := Host.absf main_arg4
  let main_cst_3 : FVec F S_ .f32 := constant S_ .f32 0x7F800000#32
  let main_v13 : FVec F S14x14x14x432x16 .f32 := broadcastInDim S14x14x14x432x16 ![] bcast_S_S14x14x14x432x16 main_cst_3
  let main_v14 : IVec S14x14x14x432x16 1 := cmpf .olt main_v12 main_v13
  let main_v15 : FVec F S8x1x1x1x16 .f32 := Host.absf main_arg5
  let main_cst_4 : FVec F S_ .f32 := constant S_ .f32 0x7F800000#32
  let main_v16 : FVec F S8x1x1x1x16 .f32 := broadcastInDim S8x1x1x1x16 ![] bcast_S_S8x1x1x1x16 main_cst_4
  let main_v17 : IVec S8x1x1x1x16 1 := cmpf .olt main_v15 main_v16
  fn_part1 (F := F) main_arg6 main_v2 main_v5 main_v8 main_v11 main_v14 main_v17
-- ==== Kernel.lean ====
abbrev S8x16x16x16x16 : Shape := ⟨5, ![8, 16, 16, 16, 16]⟩
abbrev S14x14x14x432x16 : Shape := ⟨5, ![14, 14, 14, 432, 16]⟩
abbrev S16 : Shape := ⟨1, ![16]⟩
abbrev S8x1x1x1x16 : Shape := ⟨5, ![8, 1, 1, 1, 16]⟩
abbrev S8x16 : Shape := ⟨2, ![8, 16]⟩
abbrev S1x16 : Shape := ⟨2, ![1, 16]⟩
abbrev S14x14x14x16x432 : Shape := ⟨5, ![14, 14, 14, 16, 432]⟩
abbrev S8x14x14x14x16 : Shape := ⟨5, ![8, 14, 14, 14, 16]⟩
abbrev S1x14x14x16x432 : Shape := ⟨5, ![1, 14, 14, 16, 432]⟩
abbrev S8x1x14x14x16 : Shape := ⟨5, ![8, 1, 14, 14, 16]⟩
abbrev S8x1x1x16x16 : Shape := ⟨5, ![8, 1, 1, 16, 16]⟩
abbrev S8x16x16 : Shape := ⟨3, ![8, 16, 16]⟩
abbrev S8x14x16 : Shape := ⟨3, ![8, 14, 16]⟩
abbrev S8x14x432 : Shape := ⟨3, ![8, 14, 432]⟩
abbrev S8x432 : Shape := ⟨2, ![8, 432]⟩
abbrev S8x1x432 : Shape := ⟨3, ![8, 1, 432]⟩
abbrev S1x1x14x16x432 : Shape := ⟨5, ![1, 1, 14, 16, 432]⟩
abbrev S14x16x432 : Shape := ⟨3, ![14, 16, 432]⟩
abbrev S1x16x432 : Shape := ⟨3, ![1, 16, 432]⟩
abbrev S16x432 : Shape := ⟨2, ![16, 432]⟩

abbrev nBuf : Space → Nat
  | .hbm => 18
  | .vmem => 12
  | .smem => 0
  | _ => 0

abbrev bufTy : (tb : Table) → Fin (tcTables nBuf tb) → BufTy
  | .hbm, ⟨0, _⟩ => ⟨S8x16x16x16x16, .f32⟩
  | .hbm, ⟨1, _⟩ => ⟨S14x14x14x432x16, .f32⟩
  | .hbm, ⟨2, _⟩ => ⟨S14x14x14x432x16, .f32⟩
  | .hbm, ⟨3, _⟩ => ⟨S16, .f32⟩
  | .hbm, ⟨4, _⟩ => ⟨S14x14x14x432x16, .f32⟩
  | .hbm, ⟨5, _⟩ => ⟨S8x1x1x1x16, .f32⟩
  | .hbm, ⟨6, _⟩ => ⟨S8x1x1x1x16, .f32⟩
  | .hbm, ⟨7, _⟩ => ⟨S8x16, .f32⟩
  | .hbm, ⟨8, _⟩ => ⟨S8x16x16x16x16, .bf16⟩
  | .hbm, ⟨9, _⟩ => ⟨S8x16, .f32⟩
  | .hbm, ⟨10, _⟩ => ⟨S1x16, .f32⟩
  | .hbm, ⟨11, _⟩ => ⟨S14x14x14x16x432, .f32⟩
  | .hbm, ⟨12, _⟩ => ⟨S14x14x14x16x432, .bf16⟩
  | .hbm, ⟨13, _⟩ => ⟨S14x14x14x16x432, .f32⟩
  | .hbm, ⟨14, _⟩ => ⟨S14x14x14x16x432, .bf16⟩
  | .hbm, ⟨15, _⟩ => ⟨S14x14x14x16x432, .f32⟩
  | .hbm, ⟨16, _⟩ => ⟨S14x14x14x16x432, .bf16⟩
  | .hbm, ⟨17, _⟩ => ⟨S8x14x14x14x16, .f32⟩
  | .local _ .vmem, ⟨0, _⟩ => ⟨S8x16x16x16x16, .bf16⟩
  | .local _ .vmem, ⟨1, _⟩ => ⟨S8x16, .f32⟩
  | .local _ .vmem, ⟨2, _⟩ => ⟨S8x16, .f32⟩
  | .local _ .vmem, ⟨3, _⟩ => ⟨S1x16, .f32⟩
  | .local _ .vmem, ⟨4, _⟩ => ⟨S1x14x14x16x432, .bf16⟩
  | .local _ .vmem, ⟨5, _⟩ => ⟨S1x14x14x16x432, .bf16⟩
  | .local _ .vmem, ⟨6, _⟩ => ⟨S1x14x14x16x432, .bf16⟩
  | .local _ .vmem, ⟨7, _⟩ => ⟨S1x14x14x16x432, .bf16⟩
  | .local _ .vmem, ⟨8, _⟩ => ⟨S1x14x14x16x432, .bf16⟩
  | .local _ .vmem, ⟨9, _⟩ => ⟨S1x14x14x16x432, .bf16⟩
  | .local _ .vmem, ⟨10, _⟩ => ⟨S8x1x14x14x16, .f32⟩
  | .local _ .vmem, ⟨11, _⟩ => ⟨S8x1x14x14x16, .f32⟩
  | _, _ => ⟨S8x16x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![14, 1], ![false, false]⟩

def k0_off1 (i : grid0.Coords) (c0_i32_0 : BitVec 32) (c0_i32 : BitVec 32) (c0_i32_1 : BitVec 32) : Fin 5 → Nat :=
  let c0 : Index := 0#32
  let arg0 : BitVec 32 := BitVec.ofNat 32 (i 0).val
  let v2 : BitVec 32 := Scalar.addi arg0 c0_i32_0
  let v4 : Index := Scalar.indexCast v2
  let arg1 : BitVec 32 := BitVec.ofNat 32 (i 1).val
  let c14_i32 : BitVec 32 := 14#32
  let v0 : BitVec 32 := Scalar.muli arg1 c14_i32
  let v1 : BitVec 32 := Scalar.addi v0 c0_i32
  let v3 : BitVec 32 := Scalar.addi v1 c0_i32_1
  let v5 : Index := Scalar.indexCast v3
  let c0_2 : Index := 0#32
  let c0_3 : Index := 0#32
  ![0, v4.toNat, v5.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 1 → Memref sig .tc .vmem S8x16x16x16x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x14x14x16x432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x14x14x16x432 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x14x14x16x432 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x14x14x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "eps" => some ((2748779 / 274877906944 : ℝ) : EReal)
  | "third" => some ((1 / 3 : ℝ) : EReal)
  | _ => none
-- ==== ReferenceIdeal.lean ====
abbrev S8x16x16x16x16 : Shape := ⟨5, ![8, 16, 16, 16, 16]⟩
abbrev S14x14x14x432x16 : Shape := ⟨5, ![14, 14, 14, 432, 16]⟩
abbrev S16 : Shape := ⟨1, ![16]⟩
abbrev S8x1x1x1x16 : Shape := ⟨5, ![8, 1, 1, 1, 16]⟩
abbrev S_ : Shape := ⟨0, ![]⟩
abbrev S8x14x14x14x16 : Shape := ⟨5, ![8, 14, 14, 14, 16]⟩
abbrev S8x14x14x14x256 : Shape := ⟨5, ![8, 14, 14, 14, 256]⟩
abbrev S8x14x14x14x176 : Shape := ⟨5, ![8, 14, 14, 14, 176]⟩
abbrev S8x14x14x14x432 : Shape := ⟨5, ![8, 14, 14, 14, 432]⟩
abbrev S14x14x14x16x8 : Shape := ⟨5, ![14, 14, 14, 16, 8]⟩
abbrev S1x1x1x1x16 : Shape := ⟨5, ![1, 1, 1, 1, 16]⟩

abbrev nBuf : Space → Nat
  | .hbm => 93
  | .vmem => 0
  | .smem => 0
  | _ => 0

abbrev bufTy : (tb : Table) → Fin (tcTables nBuf tb) → BufTy
  | .hbm, ⟨0, _⟩ => ⟨S8x16x16x16x16, .f32⟩
  | .hbm, ⟨1, _⟩ => ⟨S14x14x14x432x16, .f32⟩
  | .hbm, ⟨2, _⟩ => ⟨S14x14x14x432x16, .f32⟩
  | .hbm, ⟨3, _⟩ => ⟨S16, .f32⟩
  | .hbm, ⟨4, _⟩ => ⟨S14x14x14x432x16, .f32⟩
  | .hbm, ⟨5, _⟩ => ⟨S8x1x1x1x16, .f32⟩
  | .hbm, ⟨6, _⟩ => ⟨S8x1x1x1x16, .f32⟩
  | .hbm, ⟨7, _⟩ => ⟨S14x14x14x432x16, .f32⟩
  | .hbm, ⟨8, _⟩ => ⟨S14x14x14x432x16, .f32⟩
  | .hbm, ⟨9, _⟩ => ⟨S_, .f32⟩
  | .hbm, ⟨10, _⟩ => ⟨S14x14x14x432x16, .f32⟩
  | .hbm, ⟨11, _⟩ => ⟨S14x14x14x432x16, .f32⟩
  | .hbm, ⟨12, _⟩ => ⟨S_, .f32⟩
  | .hbm, ⟨13, _⟩ => ⟨S14x14x14x432x16, .f32⟩
  | .hbm, ⟨14, _⟩ => ⟨S14x14x14x432x16, .f32⟩
  | .hbm, ⟨15, _⟩ => ⟨S14x14x14x432x16, .f32⟩
  | .hbm, ⟨16, _⟩ => ⟨S14x14x14x432x16, .f32⟩
  | .hbm, ⟨17, _⟩ => ⟨S_, .f32⟩
  | .hbm, ⟨18, _⟩ => ⟨S14x14x14x432x16, .f32⟩
  | .hbm, ⟨19, _⟩ => ⟨S14x14x14x432x16, .f32⟩
  | .hbm, ⟨20, _⟩ => ⟨S8x14x14x14x16, .f32⟩
  | .hbm, ⟨21, _⟩ => ⟨S8x14x14x14x16, .f32⟩
  | .hbm, ⟨22, _⟩ => ⟨S8x14x14x14x16, .f32⟩
  | .hbm, ⟨23, _⟩ => ⟨S8x14x14x14x16, .f32⟩
  | .hbm, ⟨24, _⟩ => ⟨S8x14x14x14x16, .f32⟩
  | .hbm, ⟨25, _⟩ => ⟨S8x14x14x14x16, .f32⟩
  | .hbm, ⟨26, _⟩ => ⟨S8x14x14x14x16, .f32⟩
  | .hbm, ⟨27, _⟩ => ⟨S8x14x14x14x16, .f32⟩
  | .hbm, ⟨28, _⟩ => ⟨S8x14x14x14x16, .f32⟩
  | .hbm, ⟨29, _⟩ => ⟨S8x14x14x14x16, .f32⟩
  | .hbm, ⟨30, _⟩ => ⟨S8x14x14x14x16, .f32⟩
  | .hbm, ⟨31, _⟩ => ⟨S8x14x14x14x16, .f32⟩
  | .hbm, ⟨32, _⟩ => ⟨S8x14x14x14x16, .f32⟩
  | .hbm, ⟨33, _⟩ => ⟨S8x14x14x14x16, .f32⟩
  | .hbm, ⟨34, _⟩ => ⟨S8x14x14x14x16, .f32⟩
  | .hbm, ⟨35, _⟩ => ⟨S8x14x14x14x16, .f32⟩
  | .hbm, ⟨36, _⟩ => ⟨S8x14x14x14x16, .f32⟩
  | .hbm, ⟨37, _⟩ => ⟨S8x14x14x14x16, .f32⟩
  | .hbm, ⟨38, _⟩ => ⟨S8x14x14x14x16, .f32⟩
  | .hbm, ⟨39, _⟩ => ⟨S8x14x14x14x16, .f32⟩
  | .hbm, ⟨40, _⟩ => ⟨S8x14x14x14x16, .f32⟩
  | .hbm, ⟨41, _⟩ => ⟨S8x14x14x14x16, .f32⟩
  | .hbm, ⟨42, _⟩ => ⟨S8x14x14x14x16, .f32⟩
  | .hbm, ⟨43, _⟩ => ⟨S8x14x14x14x16, .f32⟩
  | .hbm, ⟨44, _⟩ => ⟨S8x14x14x14x16, .f32⟩
  | .hbm, ⟨45, _⟩ => ⟨S8x14x14x14x16, .f32⟩
  | .hbm, ⟨46, _⟩ => ⟨S8x14x14x14x16, .f32⟩
  | .hbm, ⟨47, _⟩ => ⟨S8x14x14x14x256, .f32⟩
  | .hbm, ⟨48, _⟩ => ⟨S8x14x14x14x176, .f32⟩
  | .hbm, ⟨49, _⟩ => ⟨S8x14x14x14x432, .f32⟩
  | .hbm, ⟨50, _⟩ => ⟨S14x14x14x16x8, .f32⟩
  | .hbm, ⟨51, _⟩ => ⟨S8x14x14x14x16, .f32⟩
  | .hbm, ⟨52, _⟩ => ⟨S14x14x14x432x16, .f32⟩
  | .hbm, ⟨53, _⟩ => ⟨S8x16x16x16x16, .f32⟩
  | .hbm, ⟨54, _⟩ => ⟨S8x16x16x16x16, .f32⟩
  | .hbm, ⟨55, _⟩ => ⟨S8x14x14x14x16, .f32⟩
  | .hbm, ⟨56, _⟩ => ⟨S8x14x14x14x16, .f32⟩
  | .hbm, ⟨57, _⟩ => ⟨S8x14x14x14x16, .f32⟩
  | .hbm, ⟨58, _⟩ => ⟨S8x14x14x14x16, .f32⟩
  | .hbm, ⟨59, _⟩ => ⟨S8x14x14x14x16, .f32⟩
  | .hbm, ⟨60, _⟩ => ⟨S8x14x14x14x16, .f32⟩
  | .hbm, ⟨61, _⟩ => ⟨S8x14x14x14x16, .f32⟩
  | .hbm, ⟨62, _⟩ => ⟨S8x14x14x14x16, .f32⟩
  | .hbm, ⟨63, _⟩ => ⟨S8x14x14x14x16, .f32⟩
  | .hbm, ⟨64, _⟩ => ⟨S8x14x14x14x16, .f32⟩
  | .hbm, ⟨65, _⟩ => ⟨S8x14x14x14x16, .f32⟩
  | .hbm, ⟨66, _⟩ => ⟨S8x14x14x14x16, .f32⟩
  | .hbm, ⟨67, _⟩ => ⟨S8x14x14x14x16, .f32⟩
  | .hbm, ⟨68, _⟩ => ⟨S8x14x14x14x16, .f32⟩
  | .hbm, ⟨69, _⟩ => ⟨S8x14x14x14x16, .f32⟩
  | .hbm, ⟨70, _⟩ => ⟨S8x14x14x14x16, .f32⟩
  | .hbm, ⟨71, _⟩ => ⟨S8x14x14x14x16, .f32⟩
  | .hbm, ⟨72, _⟩ => ⟨S8x14x14x14x16, .f32⟩
  | .hbm, ⟨73, _⟩ => ⟨S8x14x14x14x16, .f32⟩
  | .hbm, ⟨74, _⟩ => ⟨S8x14x14x14x16, .f32⟩
  | .hbm, ⟨75, _⟩ => ⟨S8x14x14x14x16, .f32⟩
  | .hbm, ⟨76, _⟩ => ⟨S8x14x14x14x16, .f32⟩
  | .hbm, ⟨77, _⟩ => ⟨S8x14x14x14x16, .f32⟩
  | .hbm, ⟨78, _⟩ => ⟨S8x14x14x14x16, .f32⟩
  | .hbm, ⟨79, _⟩ => ⟨S8x14x14x14x16, .f32⟩
  | .hbm, ⟨80, _⟩ => ⟨S8x14x14x14x16, .f32⟩
  | .hbm, ⟨81, _⟩ => ⟨S8x14x14x14x16, .f32⟩
  | .hbm, ⟨82, _⟩ => ⟨S8x14x14x14x256, .f32⟩
  | .hbm, ⟨83, _⟩ => ⟨S8x14x14x14x176, .f32⟩
  | .hbm, ⟨84, _⟩ => ⟨S8x14x14x14x432, .f32⟩
  | .hbm, ⟨85, _⟩ => ⟨S14x14x14x16x8, .f32⟩
  | .hbm, ⟨86, _⟩ => ⟨S8x14x14x14x16, .f32⟩
  | .hbm, ⟨87, _⟩ => ⟨S8x14x14x14x16, .f32⟩
  | .hbm, ⟨88, _⟩ => ⟨S8x14x14x14x16, .f32⟩
  | .hbm, ⟨89, _⟩ => ⟨S8x14x14x14x16, .f32⟩
  | .hbm, ⟨90, _⟩ => ⟨S1x1x1x1x16, .f32⟩
  | .hbm, ⟨91, _⟩ => ⟨S8x14x14x14x16, .f32⟩
  | .hbm, ⟨92, _⟩ => ⟨S8x14x14x14x16, .f32⟩
  | _, _ => ⟨S8x16x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩

abbrev nD : Nat := 1
abbrev τ : Topo := Topo.v7x

variable {F : FTy → Type} [FloatOps F]
-- ==== Proof.Body.lean ====
/- What the body of one grid point stores: for each of the 14 rows `ho` and each of the 14 columns `w` of its output
   block one vector of 8 x 16 numbers. The vector is defined once, for every `ho` and `w`, and the list of the stores
   that the body's run finds is the list of these vectors. -/
module

public import proofs.«01_k».proof.Proof.Gen.KernelIdeal.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-! ## The side conditions, for every row and column -/

theorem slices_row : ∀ k : Fin 3, S8x16x16.Slices ![0, k.val, 0] S8x14x16 := by decide

theorem slices_patch : ∀ w : Fin 14, S8x14x432.Slices ![0, w.val, 0] S8x1x432 := by decide

theorem slices_weight : ∀ w : Fin 14, S14x16x432.Slices ![w.val, 0, 0] S1x16x432 := by decide

theorem inb_weight : ∀ ho : Fin 14, ∀ a, (![0, ho.val, 0, 0, 0] : Fin 5 → Nat) a + S1x1x14x16x432.size a ≤ S1x14x14x16x432.size a := by decide

theorem inb_out : ∀ ho w : Fin 14, ∀ a, (![0, 0, ho.val, w.val, 0] : Fin 5 → Nat) a + S8x1x1x1x16.size a ≤ S8x1x14x14x16.size a := by decide

/-! ## The vectors -/

/-- The row of the input at depth offset `a` and height offset `b` from the output row `ho`. -/
def row (i : grid0.Coords) (x : Vec F S8x16x16x16x16 .bf16) (ho : Fin 14) (a b : Fin 3) : FVec F S8x16x16 .bf16 :=
  shapeCast S8x16x16
    (View.ld x (Rect.unit (s := S8x16x16x16x16) (k0_off1 i (BitVec.ofNat 32 a.val) (BitVec.ofNat 32 ho.val) (BitVec.ofNat 32 b.val))
      S8x1x1x16x16.size (k0_off1_inb i a ho b)) : Vec F S8x1x1x16x16 .bf16)
    shapeCasts_S8x1x1x16x16_S8x16x16

/-- One of the 27 pieces of the patches: 14 columns of a row, from column offset `k`. -/
def tap (i : grid0.Coords) (x : Vec F S8x16x16x16x16 .bf16) (ho : Fin 14) (a b k : Fin 3) : FVec F S8x14x16 .bf16 :=
  extractStridedSlice S8x14x16 ![0, k.val, 0] (row i x ho a b) (slices_row k)

/-- The offsets of piece `n`: depth, height and column. -/
def tapD (n : Fin 27) : Fin 3 := ⟨n.val / 9, by omega⟩
def tapH (n : Fin 27) : Fin 3 := ⟨n.val / 3 % 3, by omega⟩
def tapW (n : Fin 27) : Fin 3 := ⟨n.val % 3, by omega⟩

/-- The patches of the output row `ho`: the 27 pieces side by side. -/
def patches (i : grid0.Coords) (x : Vec F S8x16x16x16x16 .bf16) (ho : Fin 14) : FVec F S8x14x432 .bf16 :=
  concatenate S8x14x432 2
    (List.ofFn fun n : Fin 27 => (⟨S8x14x16, tap i x ho (tapD n) (tapH n) (tapW n)⟩ : (s : Shape) × (s.Idx → Elt F .bf16)))
    concatenates_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x16_S8x14x432_d2

/-- The signs of the input or of the output, and the bias, as the body reads them. -/
def readSigns (s : Vec F S8x16 .f32) : FVec F S8x16 .f32 :=
  shapeCast S8x16 (View.ld s (Rect.unit (s := S8x16) ![0, 0] S8x16.size inb_S8x16_S8x16_0_0) : Vec F S8x16 .f32) shapeCasts_S8x16_S8x16
def readBias (b : Vec F S1x16 .f32) : FVec F S1x16 .f32 :=
  shapeCast S1x16 (View.ld b (Rect.unit (s := S1x16) ![0, 0] S1x16.size inb_S1x16_S1x16_0_0) : Vec F S1x16 .f32) shapeCasts_S1x16_S1x16

/-- The input's signs, 27 times side by side. -/
def signs (s : Vec F S8x16 .f32) : FVec F S8x432 .f32 :=
  concatenate S8x432 1
    (List.ofFn fun _ : Fin 27 => (⟨S8x16, readSigns s⟩ : (s : Shape) × (s.Idx → Elt F .f32)))
    concatenates_S8x16_S8x16_S8x16_S8x16_S8x16_S8x16_S8x16_S8x16_S8x16_S8x16_S8x16_S8x16_S8x16_S8x16_S8x16_S8x16_S8x16_S8x16_S8x16_S8x16_S8x16_S8x16_S8x16_S8x16_S8x16_S8x16_S8x16_S8x432_d1

/-- The patches of the output row `ho` times the signs. -/
def signed (i : grid0.Coords) (x : Vec F S8x16x16x16x16 .bf16) (s : Vec F S8x16 .f32) (ho : Fin 14) : FVec F S8x14x432 .bf16 :=
  mulf (patches i x ho)
    (broadcastTo S8x14x432 (shapeCast S8x1x432 (truncf .bf16 (signs s) bitsLt_bf16_f32) shapeCasts_S8x432_S8x1x432)
      broadcasts_S8x1x432_S8x14x432)

/-- The weights of the output row `ho`. -/
def weight (x : Vec F S1x14x14x16x432 .bf16) (ho : Fin 14) : FVec F S14x16x432 .bf16 :=
  shapeCast S14x16x432
    (View.ld x (Rect.unit (s := S1x14x14x16x432) ![0, ho.val, 0, 0, 0] S1x1x14x16x432.size (inb_weight ho)) : Vec F S1x1x14x16x432 .bf16)
    shapeCasts_S1x1x14x16x432_S14x16x432

/-- The series `u (1 - u (1/2 - u/3))` at `u = exp r`. -/
def series (r : FVec F S14x16x432 .bf16) : FVec F S14x16x432 .bf16 :=
  mulf (exp r) (subf (broadcast S14x16x432 (Scalar.ofBits .bf16 0x3F80#16 : F .bf16))
    (mulf (exp r) (subf (broadcast S14x16x432 (Scalar.ofBits .bf16 0x3F00#16 : F .bf16))
      (mulf (exp r) (broadcast S14x16x432 (Named.named κ "third" 0x3EAB#16 : F .bf16))))))

/-- The perturbation of the weights: the scale, which is `eps` and the series, times the noise. -/
def perturb (r n : FVec F S14x16x432 .bf16) : FVec F S14x16x432 .bf16 :=
  mulf (addf (broadcast S14x16x432 (Named.named κ "eps" 0x3728#16 : F .bf16)) (series r)) n

/-- The patches of column `w` times the weights of column `w`. -/
def product (p : FVec F S8x14x432 .bf16) (q : FVec F S14x16x432 .bf16) (w : Fin 14) : FVec F S8x16 .f32 :=
  matmul dot_S8x432_S16x432_S8x16_1_1_0_0_n_n none
    (shapeCast S8x432 (extractStridedSlice S8x1x432 ![0, w.val, 0] p (slices_patch w)) shapeCasts_S8x1x432_S8x432)
    (shapeCast S16x432 (extractStridedSlice S1x16x432 ![w.val, 0, 0] q (slices_weight w)) shapeCasts_S1x16x432_S16x432)
    (constant S8x16 .f32 0x00000000#32)

/-- What the body stores for the output row `ho` and column `w`. -/
def stored (i : grid0.Coords) (x0 : Vec F S8x16x16x16x16 .bf16) (x1 x2 : Vec F S8x16 .f32) (x3 : Vec F S1x16 .f32)
    (x4 x5 x6 : Vec F S1x14x14x16x432 .bf16) (ho w : Fin 14) : FVec F S8x1x1x1x16 .f32 :=
  shapeCast S8x1x1x1x16
    (addf (addf (product (patches i x0 ho) (weight x4 ho) w)
        (mulf (product (signed i x0 x1 ho) (perturb (weight x5 ho) (weight x6 ho)) w) (readSigns x2)))
      (broadcastTo S8x16 (readBias x3) broadcasts_S1x16_S8x16))
    shapeCasts_S8x16_S8x1x1x1x16

/-- The store for row `ho` and column `w`, with the place that it goes to. -/
def piece (i : grid0.Coords) (x0 : Vec F S8x16x16x16x16 .bf16) (x1 x2 : Vec F S8x16 .f32) (x3 : Vec F S1x16 .f32)
    (x4 x5 x6 : Vec F S1x14x14x16x432 .bf16) (ho w : Fin 14) : View.Piece (Elt F) S8x1x14x14x16 .f32 :=
  ⟨Rect.unit (s := S8x1x14x14x16) ![0, 0, ho.val, w.val, 0] S8x1x1x1x16.size (inb_out ho w), stored i x0 x1 x2 x3 x4 x5 x6 ho w⟩

/-- The numbers 13, 12, ..., 0: the order in which a list of stores, the last one first, runs through the rows and columns. -/
def down : List (Fin 14) := [13, 12, 11, 10, 9, 8, 7, 6, 5, 4, 3, 2, 1, 0]

/-- All the stores of a grid point, the last one first. -/
def pieces (i : grid0.Coords) (x0 : Vec F S8x16x16x16x16 .bf16) (x1 x2 : Vec F S8x16 .f32) (x3 : Vec F S1x16 .f32)
    (x4 x5 x6 : Vec F S1x14x14x16x432 .bf16) : List (View.Piece (Elt F) S8x1x14x14x16 .f32) :=
  down.flatMap fun ho => down.map fun w => piece i x0 x1 x2 x3 x4 x5 x6 ho w

end Cert.KernelIdeal.Body

end
-- ==== Proof.Consts.lean ====
/- The constants of the two programs as extended reals: the named ones of the kernel, and the bit patterns of both. -/
module

public import proofs.«01_k».proof.Defs
public import Idealize.ShloMosaic.Lib.IdealHost

@[expose] public section

noncomputable section

namespace Cert.Consts

open Idealize.ShloMosaic

/-- The offset of the scale, `1e-5` as a 32-bit float writes it. -/
def eps : EReal := ((2748779 / 274877906944 : ℝ) : EReal)

/-- One half, one third and three. -/
def half : EReal := ((1 / 2 : ℝ) : EReal)
def third : EReal := ((1 / 3 : ℝ) : EReal)
def three : EReal := ((3 : ℝ) : EReal)

theorem named_eps : (Named.named Cert.KernelIdeal.κ "eps" 0x3728#16 : Ideal .bf16) = eps :=
  IdealRules.named_const.ideal_named_scalar _ _ _ _ rfl

theorem named_third : (Named.named Cert.KernelIdeal.κ "third" 0x3EAB#16 : Ideal .bf16) = third :=
  IdealRules.named_const.ideal_named_scalar _ _ _ _ rfl

theorem half_bf16 : Ideal.ofBits .bf16 0x3F00#16 = half := by
  unfold half; simp [Ideal.ofBits, Ideal.ieee, -EReal.coe_mul]; norm_num

theorem half_f32 : Ideal.ofBits .f32 0x3F000000#32 = half := by
  unfold half; simp [Ideal.ofBits, Ideal.ieee, -EReal.coe_mul]; norm_num

theorem three_f32 : Ideal.ofBits .f32 0x40400000#32 = three := by
  unfold three; simp [Ideal.ofBits, Ideal.ieee, -EReal.coe_mul]; norm_num

theorem eps_f32 : Ideal.ofBits .f32 0x3727C5AC#32 = eps := by
  unfold eps; simp [Ideal.ofBits, Ideal.ieee, -EReal.coe_mul]; norm_num

end Cert.Consts

end
-- ==== Proof.Common.lean ====
/- The function that both programs compute, in the arguments: a locally connected convolution of the input with the mean
   weights, one of the input times its signs with the perturbation times the output's signs, and the bias. -/
module

public import proofs.«01_k».proof.Proof.Consts
public import Idealize.ShloMosaic.Lib.Pointwise

@[expose] public section

noncomputable section

namespace Cert.Common

open Idealize.ShloMosaic

/-- Where entry `p` of the patch at output position `(d, h, w)` of batch element `b` lies in the input: the entries run
    over the depth offset, the height offset, the column offset and the channel, the channel fastest. -/
def at_ (b : Fin 8) (d h w : Fin 14) (p : Fin 432) : (⟨5, ![8, 16, 16, 16, 16]⟩ : Shape).Idx :=
  ix5 b ⟨d.val + p.val / 144, by omega⟩ ⟨h.val + p.val / 48 % 3, by omega⟩ ⟨w.val + p.val / 16 % 3, by omega⟩
    ⟨p.val % 16, by omega⟩

/-- The channel of entry `p` of a patch. -/
def chan (p : Fin 432) : Fin 16 := ⟨p.val % 16, by omega⟩

/-- The scale at `rho = r`, the series in powers of `u = exp r`: `eps + (u - u² (1/2 - u/3))`. -/
def scale (r : EReal) : EReal :=
  Consts.eps + (Ideal.exp r - Ideal.exp r * Ideal.exp r * (Consts.half - Ideal.div (Ideal.exp r) Consts.three))

/-- The result, number by number. -/
def value (x : (⟨5, ![8, 16, 16, 16, 16]⟩ : Shape).Idx → EReal) (loc rho : (⟨5, ![14, 14, 14, 432, 16]⟩ : Shape).Idx → EReal)
    (bias : (⟨1, ![16]⟩ : Shape).Idx → EReal) (noise : (⟨5, ![14, 14, 14, 432, 16]⟩ : Shape).Idx → EReal)
    (si so : (⟨5, ![8, 1, 1, 1, 16]⟩ : Shape).Idx → EReal) : (⟨5, ![8, 14, 14, 14, 16]⟩ : Shape).Idx → EReal :=
  fun y =>
    (∑ p : Fin 432, x (at_ (y 0) (y 1) (y 2) (y 3) p) * loc (ix5 (y 1) (y 2) (y 3) p (y 4)))
      + (∑ p : Fin 432, (x (at_ (y 0) (y 1) (y 2) (y 3) p) * si (ix5 (y 0) 0 0 0 (chan p)))
            * (scale (rho (ix5 (y 1) (y 2) (y 3) p (y 4))) * noise (ix5 (y 1) (y 2) (y 3) p (y 4))))
          * so (ix5 (y 0) 0 0 0 (y 4))
      + bias (ix1 (y 4))

end Cert.Common

end
-- ==== Proof.Block.lean ====
/- One stored vector over the extended reals, number by number: a sum over the 432 entries of the patch for the mean,
   one for the perturbation, and the bias. -/
module

public import proofs.«01_k».proof.Proof.Body
public import proofs.«01_k».proof.Proof.Common
public import Idealize.ShloMosaic.Lib.Pointwise
public import Idealize.ShloMosaic.Lib.Pipeline.ValueKit.Tiles

@[expose] public section

set_option maxRecDepth 16384

noncomputable section

namespace Cert.KernelIdeal.Body

open Cert.Common (at_ chan)
open Cert.KernelIdeal Cert.KernelIdeal.Gen Idealize.ShloMosaic Idealize.ShloMosaic.TcCoe Idealize.SL.Sem

/-! ## The patch -/

/-- Grid point `t` as a depth of the output. -/
def depth (t : Fin grid0.N) : Fin 14 := ⟨t.val, by have := t.isLt; have := N_0; omega⟩

/-- Where the row with depth offset `a` and height offset `b` starts. -/
theorem off_eq : ∀ (t : Fin grid0.N) (a : Fin 3) (ho : Fin 14) (b : Fin 3),
    k0_off1 (grid0.coords t) (BitVec.ofNat 32 a.val) (BitVec.ofNat 32 ho.val) (BitVec.ofNat 32 b.val)
      = ![0, (depth t).val + a.val, ho.val + b.val, 0, 0] := by decide +kernel

theorem cast_row (v : Vec Ideal S8x1x1x16x16 .bf16) (n : Fin 8) (w c : Fin 16) :
    shapeCast S8x16x16 v shapeCasts_S8x1x1x16x16_S8x16x16 (ix3 n w c) = v (ix5 n 0 0 w c) := by
  pointwise []

theorem ld_row (x : Vec Ideal S8x16x16x16x16 .bf16) (off : Fin 5 → Nat) (inb) (d h : Fin 16) (hoff : off = ![0, d.val, h.val, 0, 0])
    (n : Fin 8) (w c : Fin 16) :
    (View.ld x (Rect.unit (s := S8x16x16x16x16) off S8x1x1x16x16.size inb) : Vec Ideal S8x1x1x16x16 .bf16) (ix5 n 0 0 w c)
      = x (ix5 n d h w c) := by
  subst hoff
  refine View.ld_unit_apply_of x _ _ inb (ix5 n 0 0 w c) (ix5 n d h w c) fun e => ?_
  fin_cases e <;> simp [ix5]

theorem row_apply (t : Fin grid0.N) (x : Vec Ideal S8x16x16x16x16 .bf16) (ho : Fin 14) (a b : Fin 3)
    (n : Fin 8) (w c : Fin 16) :
    row (grid0.coords t) x ho a b (ix3 n w c)
      = x (ix5 n ⟨(depth t).val + a.val, by omega⟩ ⟨ho.val + b.val, by omega⟩ w c) :=
  (cast_row _ n w c).trans (ld_row x _ _ ⟨(depth t).val + a.val, by omega⟩ ⟨ho.val + b.val, by omega⟩ (off_eq t a ho b) n w c)

theorem tap_apply (t : Fin grid0.N) (x : Vec Ideal S8x16x16x16x16 .bf16) (ho : Fin 14) (a b k : Fin 3)
    (n : Fin 8) (w : Fin 14) (c : Fin 16) :
    tap (grid0.coords t) x ho a b k (ix3 n w c)
      = x (ix5 n ⟨(depth t).val + a.val, by omega⟩ ⟨ho.val + b.val, by omega⟩ ⟨k.val + w.val, by omega⟩ c) := by
  rw [← row_apply t x ho a b n ⟨k.val + w.val, by omega⟩ c]
  unfold tap
  generalize row _ x ho a b = v
  pointwise []

theorem patches_apply (t : Fin grid0.N) (x : Vec Ideal S8x16x16x16x16 .bf16) (ho : Fin 14) (b : Fin 8) (w : Fin 14) (p : Fin 432) :
    patches (grid0.coords t) x ho (ix3 b w p) = x (at_ b (depth t) ho w p) := by
  have hn : p.val / 16 < 27 := by omega
  unfold patches
  refine (concatenate_ofFn_apply (t := S8x14x432) (s₁ := S8x14x16) 2 (fun n => tap (grid0.coords t) x ho (tapD n) (tapH n) (tapW n)) _ rfl 16 rfl
    (ix3 b w p) ⟨p.val / 16, hn⟩ rfl (ix3 b w ⟨p.val % 16, by omega⟩) rfl
    (by intro e he; fin_cases e <;> first | rfl | exact absurd rfl he)).trans ?_
  rw [tap_apply]
  unfold at_ tapD tapH tapW
  congr 2 <;> (apply Fin.ext; simp only []; omega)

/-! ## The signs, the bias and the weights -/

theorem readSigns_apply (s : Vec Ideal S8x16 .f32) (b : Fin 8) (f : Fin 16) : readSigns s (ix2 b f) = s (ix2 b f) := by
  pointwise [readSigns]

theorem readBias_apply (s : Vec Ideal S1x16 .f32) (f : Fin 16) : readBias s (ix2 0 f) = s (ix2 0 f) := by
  pointwise [readBias]

theorem signs_apply (s : Vec Ideal S8x16 .f32) (b : Fin 8) (p : Fin 432) : signs s (ix2 b p) = s (ix2 b (chan p)) := by
  have hn : p.val / 16 < 27 := by omega
  unfold signs
  refine (concatenate_ofFn_apply (t := S8x432) (s₁ := S8x16) 1 (fun _ => readSigns s) _ rfl 16 rfl
    (ix2 b p) ⟨p.val / 16, hn⟩ rfl (ix2 b (chan p)) rfl
    (by intro e he; fin_cases e <;> first | rfl | exact absurd rfl he)).trans ?_
  rw [readSigns_apply]

theorem signed_apply (t : Fin grid0.N) (x : Vec Ideal S8x16x16x16x16 .bf16) (s : Vec Ideal S8x16 .f32) (ho : Fin 14)
    (b : Fin 8) (w : Fin 14) (p : Fin 432) :
    signed (grid0.coords t) x s ho (ix3 b w p) = x (at_ b (depth t) ho w p) * s (ix2 b (chan p)) := by
  rw [← patches_apply t x, ← signs_apply s]
  unfold signed
  generalize patches _ x ho = u
  generalize signs s = v
  pointwise []

theorem cast_weight (v : Vec Ideal S1x1x14x16x432 .bf16) (w : Fin 14) (f : Fin 16) (p : Fin 432) :
    shapeCast S14x16x432 v shapeCasts_S1x1x14x16x432_S14x16x432 (ix3 w f p) = v (ix5 0 0 w f p) := by
  pointwise []

theorem weight_apply (x : Vec Ideal S1x14x14x16x432 .bf16) (ho w : Fin 14) (f : Fin 16) (p : Fin 432) :
    weight x ho (ix3 w f p) = x (ix5 0 ho w f p) := by
  refine (cast_weight _ w f p).trans (View.ld_unit_apply_of x _ _ _ (ix5 0 0 w f p) (ix5 0 ho w f p) fun e => ?_)
  fin_cases e <;> simp [ix5]

/-- The scale as the body computes it: the offset and the series by its nested form, at `u = exp r`. -/
def nested (r : EReal) : EReal :=
  Consts.eps + Ideal.exp r * (1 - Ideal.exp r * (Consts.half - Ideal.exp r * Consts.third))

theorem perturb_apply (r n : FVec Ideal S14x16x432 .bf16) (w : Fin 14) (f : Fin 16) (p : Fin 432) :
    perturb r n (ix3 w f p) = nested (r (ix3 w f p)) * n (ix3 w f p) := by
  pointwise [perturb, series, nested, Consts.named_eps, Consts.named_third, Consts.half_bf16]

theorem product_apply (u : FVec Ideal S8x14x432 .bf16) (q : FVec Ideal S14x16x432 .bf16) (w : Fin 14) (b : Fin 8) (f : Fin 16) :
    product u q w (ix2 b f) = ∑ p : Fin 432, u (ix3 b w p) * q (ix3 w f p) := by
  pointwise [product]

/-- The number that a grid point stores at batch element `b`, row `ho`, column `w` and filter `f`. -/
def number (d : Fin 14) (x0 : Vec Ideal S8x16x16x16x16 .bf16) (x1 x2 : Vec Ideal S8x16 .f32) (x3 : Vec Ideal S1x16 .f32)
    (x4 x5 x6 : Vec Ideal S1x14x14x16x432 .bf16) (b : Fin 8) (ho w : Fin 14) (f : Fin 16) : EReal :=
  (∑ p : Fin 432, x0 (at_ b d ho w p) * x4 (ix5 0 ho w f p))
    + (∑ p : Fin 432, (x0 (at_ b d ho w p) * x1 (ix2 b (chan p))) * (nested (x5 (ix5 0 ho w f p)) * x6 (ix5 0 ho w f p)))
        * x2 (ix2 b f)
    + x3 (ix2 0 f)

theorem stored_apply (t : Fin grid0.N) (x0 : Vec Ideal S8x16x16x16x16 .bf16) (x1 x2 : Vec Ideal S8x16 .f32) (x3 : Vec Ideal S1x16 .f32)
    (x4 x5 x6 : Vec Ideal S1x14x14x16x432 .bf16) (ho w : Fin 14) (b : Fin 8) (f : Fin 16) :
    stored (grid0.coords t) x0 x1 x2 x3 x4 x5 x6 ho w (ix5 b 0 0 0 f) = number (depth t) x0 x1 x2 x3 x4 x5 x6 b ho w f := by
  pointwise [stored]
  simp only [product_apply, patches_apply, signed_apply, perturb_apply, weight_apply, readSigns_apply, readBias_apply, number]

end Cert.KernelIdeal.Body

end
-- ==== Proof.Found.lean ====
/- The stores that the run of the body finds are those of `Body.pieces`. -/
module

public import proofs.«01_k».proof.Proof.Body
public import Idealize.ShloMosaic.Lib.Tactic

@[expose] public section

set_option maxRecDepth 65536

noncomputable section

namespace Cert.KernelIdeal.Body

open Cert.KernelIdeal Cert.KernelIdeal.Gen Idealize.ShloMosaic Idealize.ShloMosaic.TcCoe Idealize.SL.Sem

variable {F : FTy → Type} [FloatOps F] [Named F]

open Idealize.ShloMosaic.Tactic

/-- The stores that the run of the body finds are those of `pieces`, of the contents that the staging buffers hold. -/
theorem found_read (c : Dev nD) (i : grid0.Coords)
    (arg2 : Memref sig .tc .vmem S8x16x16x16x16 .bf16) (harg2 : arg2.IsWhole)
    (arg3 : Memref sig .tc .vmem S8x16 .f32) (harg3 : arg3.IsWhole)
    (arg4 : Memref sig .tc .vmem S8x16 .f32) (harg4 : arg4.IsWhole)
    (arg5 : Memref sig .tc .vmem S1x16 .f32) (harg5 : arg5.IsWhole)
    (arg6 : Memref sig .tc .vmem S1x14x14x16x432 .bf16) (harg6 : arg6.IsWhole)
    (arg7 : Memref sig .tc .vmem S1x14x14x16x432 .bf16) (harg7 : arg7.IsWhole)
    (arg8 : Memref sig .tc .vmem S1x14x14x16x432 .bf16) (harg8 : arg8.IsWhole)
    (arg9 : Memref sig .tc .vmem S8x1x14x14x16 .f32) (harg9 : arg9.IsWhole)
    (x0 : Vec F S8x16x16x16x16 .bf16) (x1 x2 : Vec F S8x16 .f32) (x3 : Vec F S1x16 .f32)
    (x4 x5 x6 : Vec F S1x14x14x16x432 .bf16) :
    (kernelRun0_A c i arg2 harg2 arg3 harg3 arg4 harg4 arg5 harg5 arg6 harg6 arg7 harg7 arg8 harg8 arg9 harg9 x0 x1 x2 x3 x4 x5 x6).1
      = pieces i (arg2.view.read (Elt F) (harg2.unread x0)) (arg3.view.read (Elt F) (harg3.unread x1))
          (arg4.view.read (Elt F) (harg4.unread x2)) (arg5.view.read (Elt F) (harg5.unread x3))
          (arg6.view.read (Elt F) (harg6.unread x4)) (arg7.view.read (Elt F) (harg7.unread x5))
          (arg8.view.read (Elt F) (harg8.unread x6)) := by
  sl_kernel_rfl

/-- ... which are the blocks. -/
theorem found (c : Dev nD) (i : grid0.Coords)
    (arg2 : Memref sig .tc .vmem S8x16x16x16x16 .bf16) (harg2 : arg2.IsWhole)
    (arg3 : Memref sig .tc .vmem S8x16 .f32) (harg3 : arg3.IsWhole)
    (arg4 : Memref sig .tc .vmem S8x16 .f32) (harg4 : arg4.IsWhole)
    (arg5 : Memref sig .tc .vmem S1x16 .f32) (harg5 : arg5.IsWhole)
    (arg6 : Memref sig .tc .vmem S1x14x14x16x432 .bf16) (harg6 : arg6.IsWhole)
    (arg7 : Memref sig .tc .vmem S1x14x14x16x432 .bf16) (harg7 : arg7.IsWhole)
    (arg8 : Memref sig .tc .vmem S1x14x14x16x432 .bf16) (harg8 : arg8.IsWhole)
    (arg9 : Memref sig .tc .vmem S8x1x14x14x16 .f32) (harg9 : arg9.IsWhole)
    (x0 : Vec F S8x16x16x16x16 .bf16) (x1 x2 : Vec F S8x16 .f32) (x3 : Vec F S1x16 .f32)
    (x4 x5 x6 : Vec F S1x14x14x16x432 .bf16) :
    (kernelRun0_A c i arg2 harg2 arg3 harg3 arg4 harg4 arg5 harg5 arg6 harg6 arg7 harg7 arg8 harg8 arg9 harg9 x0 x1 x2 x3 x4 x5 x6).1
      = pieces i x0 x1 x2 x3 x4 x5 x6 := by
  rw [found_read, harg2.read_unread, harg3.read_unread, harg4.read_unread, harg5.read_unread, harg6.read_unread,
    harg7.read_unread, harg8.read_unread]

end Cert.KernelIdeal.Body

end
-- ==== Proof.Result.lean ====
/- The result array after the run, as one function of the arrays that the call is given: at depth `d` it is what grid
   point `d` stores, and its blocks are the depths. -/
module

public import proofs.«01_k».proof.Proof.Block
public import proofs.«01_k».proof.Proof.Found

@[expose] public section

set_option maxRecDepth 16384

noncomputable section

namespace Cert.KernelIdeal.Body

open Cert.KernelIdeal Cert.KernelIdeal.Gen Cert.KernelIdeal.Value Idealize.ShloMosaic Idealize.ShloMosaic.TcCoe Idealize.SL.Sem

/-! ## One grid point -/

/-- An index of one stored vector is given by its batch element and its filter. -/
theorem vector_idx (x : S8x1x1x1x16.Idx) : x = ix5 (x 0) 0 0 0 (x 4) := by
  funext a
  match a with
  | ⟨0, _⟩ => rfl
  | ⟨1, h⟩ => exact Subsingleton.elim (α := Fin 1) _ _
  | ⟨2, h⟩ => exact Subsingleton.elim (α := Fin 1) _ _
  | ⟨3, h⟩ => exact Subsingleton.elim (α := Fin 1) _ _
  | ⟨4, _⟩ => rfl

/-- What grid point `t` leaves in its output block, number by number. -/
theorem out_apply (c : Dev nD) (t : Fin grid0.N)
    (arg2 : Memref sig .tc .vmem S8x16x16x16x16 .bf16) (harg2 : arg2.IsWhole)
    (arg3 : Memref sig .tc .vmem S8x16 .f32) (harg3 : arg3.IsWhole)
    (arg4 : Memref sig .tc .vmem S8x16 .f32) (harg4 : arg4.IsWhole)
    (arg5 : Memref sig .tc .vmem S1x16 .f32) (harg5 : arg5.IsWhole)
    (arg6 : Memref sig .tc .vmem S1x14x14x16x432 .bf16) (harg6 : arg6.IsWhole)
    (arg7 : Memref sig .tc .vmem S1x14x14x16x432 .bf16) (harg7 : arg7.IsWhole)
    (arg8 : Memref sig .tc .vmem S1x14x14x16x432 .bf16) (harg8 : arg8.IsWhole)
    (arg9 : Memref sig .tc .vmem S8x1x14x14x16 .f32) (harg9 : arg9.IsWhole)
    (x0 : Vec Ideal S8x16x16x16x16 .bf16) (x1 x2 : Vec Ideal S8x16 .f32) (x3 : Vec Ideal S1x16 .f32)
    (x4 x5 x6 : Vec Ideal S1x14x14x16x432 .bf16) (y : S8x1x14x14x16.Idx) :
    out0_A_7 c (grid0.coords t) arg2 harg2 arg3 harg3 arg4 harg4 arg5 harg5 arg6 harg6 arg7 harg7 arg8 harg8 arg9 harg9 x0 x1 x2 x3 x4 x5 x6 y
      = number (depth t) x0 x1 x2 x3 x4 x5 x6 (y 0) (y 2) (y 3) (y 4) := by
  unfold out0_A_7
  refine View.read_writes_apply_of_pieces _ _ (fun y => number (depth t) x0 x1 x2 x3 x4 x5 x6 (y 0) (y 2) (y 3) (y 4)) _ ?_ y
    (cover0_A_7 c (grid0.coords t) arg2 harg2 arg3 harg3 arg4 harg4 arg5 harg5 arg6 harg6 arg7 harg7 arg8 harg8 arg9 harg9 x0 x1 x2 x3 x4 x5 x6 y)
  rw [found]
  intro p hp x
  obtain ⟨ho, -, hp⟩ := List.mem_flatMap.mp hp
  obtain ⟨w, -, rfl⟩ := List.mem_map.mp hp
  have e : ∀ a, ((piece (grid0.coords t) x0 x1 x2 x3 x4 x5 x6 ho w).1.emb x a).val = (![0, 0, ho.val, w.val, 0] : Fin 5 → Nat) a + (x a).val :=
    fun a => Rect.idx_unit_val (s := S8x1x14x14x16) ![0, 0, ho.val, w.val, 0] S8x1x1x1x16.size (inb_out ho w) x a
  have e0 : (piece (grid0.coords t) x0 x1 x2 x3 x4 x5 x6 ho w).1.emb x 0 = x 0 := Fin.ext ((e 0).trans (Nat.zero_add _))
  have e2 : (piece (grid0.coords t) x0 x1 x2 x3 x4 x5 x6 ho w).1.emb x 2 = ho := Fin.ext ((e 2).trans (by
    have h : (x 2).val = 0 := congrArg (fun q : S8x1x1x1x16.Idx => (q 2).val) (vector_idx x)
    rw [h]; rfl))
  have e3 : (piece (grid0.coords t) x0 x1 x2 x3 x4 x5 x6 ho w).1.emb x 3 = w := Fin.ext ((e 3).trans (by
    have h : (x 3).val = 0 := congrArg (fun q : S8x1x1x1x16.Idx => (q 3).val) (vector_idx x)
    rw [h]; rfl))
  have e4 : (piece (grid0.coords t) x0 x1 x2 x3 x4 x5 x6 ho w).1.emb x 4 = x 4 := Fin.ext ((e 4).trans (Nat.zero_add _))
  show stored (grid0.coords t) x0 x1 x2 x3 x4 x5 x6 ho w x = number (depth t) x0 x1 x2 x3 x4 x5 x6 _ _ _ _
  rw [e0, e2, e3, e4]
  exact (congrArg _ (vector_idx x)).trans (stored_apply t x0 x1 x2 x3 x4 x5 x6 ho w (x 0) (x 4))

/-! ## The windows' blocks -/

theorem index0 : ∀ (t : Fin grid0.N) (a : Fin 5), win0_0.index t a = 0 := by decide +kernel
theorem index1 : ∀ (t : Fin grid0.N) (a : Fin 2), win0_1.index t a = 0 := by decide +kernel
theorem index2 : ∀ (t : Fin grid0.N) (a : Fin 2), win0_2.index t a = 0 := by decide +kernel
theorem index3 : ∀ (t : Fin grid0.N) (a : Fin 2), win0_3.index t a = 0 := by decide +kernel
theorem index4 : ∀ (t : Fin grid0.N) (a : Fin 5), win0_4.index t a = (![(depth t).val, 0, 0, 0, 0] : Fin 5 → Nat) a := by decide +kernel
theorem index5 : ∀ (t : Fin grid0.N) (a : Fin 5), win0_5.index t a = (![(depth t).val, 0, 0, 0, 0] : Fin 5 → Nat) a := by decide +kernel
theorem index6 : ∀ (t : Fin grid0.N) (a : Fin 5), win0_6.index t a = (![(depth t).val, 0, 0, 0, 0] : Fin 5 → Nat) a := by decide +kernel
theorem index7 : ∀ (t : Fin grid0.N) (a : Fin 5), win0_7.index t a = (![0, (depth t).val, 0, 0, 0] : Fin 5 → Nat) a := by decide +kernel

/-- The weights of one depth of the output. -/
def slab (d : Fin 14) (X : Vec Ideal S14x14x14x16x432 .bf16) : Vec Ideal S1x14x14x16x432 .bf16 :=
  fun y => X (ix5 d (y 1) (y 2) (y 3) (y 4))

variable (m : (ℓ : Loc nD τ sig) → Buf (Elt Ideal) ℓ)

theorem block0 (c : Dev nD) (t : Fin grid0.N) : iblk m c 0 t = V m c main_v1 := by
  funext j
  refine congrArg (V m c main_v1) (funext fun a => Fin.ext ?_)
  show win0_0.index t a * S8x16x16x16x16.size a + 1 * (j a).val = (j a).val
  rw [index0, Nat.zero_mul, Nat.zero_add, Nat.one_mul]

theorem block1 (c : Dev nD) (t : Fin grid0.N) : iblk m c 1 t = V m c main_v0 := by
  funext j
  refine congrArg (V m c main_v0) (funext fun a => Fin.ext ?_)
  show win0_1.index t a * S8x16.size a + 1 * (j a).val = (j a).val
  rw [index1, Nat.zero_mul, Nat.zero_add, Nat.one_mul]

theorem block2 (c : Dev nD) (t : Fin grid0.N) : iblk m c 2 t = V m c main_v2 := by
  funext j
  refine congrArg (V m c main_v2) (funext fun a => Fin.ext ?_)
  show win0_2.index t a * S8x16.size a + 1 * (j a).val = (j a).val
  rw [index2, Nat.zero_mul, Nat.zero_add, Nat.one_mul]

theorem block3 (c : Dev nD) (t : Fin grid0.N) : iblk m c 3 t = V m c main_v3 := by
  funext j
  refine congrArg (V m c main_v3) (funext fun a => Fin.ext ?_)
  show win0_3.index t a * S1x16.size a + 1 * (j a).val = (j a).val
  rw [index3, Nat.zero_mul, Nat.zero_add, Nat.one_mul]

/-- A block of weights at the index that is depth `d` on the first axis and zero on the others is the slab of depth `d`. -/
theorem slab_idx (d : Fin 14) (i : Fin 5 → Nat) (hi : ∀ a, i a = (![d.val, 0, 0, 0, 0] : Fin 5 → Nat) a) (j : S1x14x14x16x432.Idx) (a : Fin 5) :
    i a * S1x14x14x16x432.size a + 1 * (j a).val = ((ix5 d (j 1) (j 2) (j 3) (j 4) : S14x14x14x16x432.Idx) a).val := by
  rw [hi]
  match a with
  | ⟨0, _⟩ =>
    have h : (j 0).val = 0 := congrArg (fun q : Fin 1 => q.val) (Subsingleton.elim (α := Fin 1) (j 0) 0)
    show d.val * 1 + 1 * (j 0).val = d.val
    omega
  | ⟨1, _⟩ => show 0 * 14 + 1 * (j 1).val = (j 1).val; omega
  | ⟨2, _⟩ => show 0 * 14 + 1 * (j 2).val = (j 2).val; omega
  | ⟨3, _⟩ => show 0 * 16 + 1 * (j 3).val = (j 3).val; omega
  | ⟨4, _⟩ => show 0 * 432 + 1 * (j 4).val = (j 4).val; omega

theorem block4 (c : Dev nD) (t : Fin grid0.N) : iblk m c 4 t = slab (depth t) (V m c main_v5) :=
  funext fun j => congrArg (V m c main_v5) (funext fun a => Fin.ext (slab_idx (depth t) _ (index4 t) j a))

theorem block5 (c : Dev nD) (t : Fin grid0.N) : iblk m c 5 t = slab (depth t) (V m c main_v7) :=
  funext fun j => congrArg (V m c main_v7) (funext fun a => Fin.ext (slab_idx (depth t) _ (index5 t) j a))

theorem block6 (c : Dev nD) (t : Fin grid0.N) : iblk m c 6 t = slab (depth t) (V m c main_v9) :=
  funext fun j => congrArg (V m c main_v9) (funext fun a => Fin.ext (slab_idx (depth t) _ (index6 t) j a))

/-! ## The whole array -/

/-- The result array as a function of the arrays that the call is given. -/
def array (x0 : Vec Ideal S8x16x16x16x16 .bf16) (x1 x2 : Vec Ideal S8x16 .f32) (x3 : Vec Ideal S1x16 .f32)
    (x4 x5 x6 : Vec Ideal S14x14x14x16x432 .bf16) : Vec Ideal S8x14x14x14x16 .f32 :=
  fun y => number (y 1) x0 x1 x2 x3 (slab (y 1) x4) (slab (y 1) x5) (slab (y 1) x6) (y 0) (y 2) (y 3) (y 4)

/-- Where number `y` of grid point `t`'s block lies in the result array. -/
theorem emb7 (t : Fin grid0.N) (y : S8x1x14x14x16.Idx) : ((cfg0.win 7).blk t).view.emb y = ix5 (y 0) (depth t) (y 2) (y 3) (y 4) := by
  funext a
  apply Fin.ext
  show win0_7.index t a * S8x1x14x14x16.size a + 1 * (y a).val = _
  rw [index7]
  match a with
  | ⟨0, _⟩ => show 0 * 8 + 1 * (y 0).val = (y 0).val; omega
  | ⟨1, _⟩ =>
    have h : (y 1).val = 0 := congrArg (fun q : Fin 1 => q.val) (Subsingleton.elim (α := Fin 1) (y 1) 0)
    show (depth t).val * 1 + 1 * (y 1).val = (depth t).val
    omega
  | ⟨2, _⟩ => show 0 * 14 + 1 * (y 2).val = (y 2).val; omega
  | ⟨3, _⟩ => show 0 * 14 + 1 * (y 3).val = (y 3).val; omega
  | ⟨4, _⟩ => show 0 * 16 + 1 * (y 4).val = (y 4).val; omega

/-- What grid point `t` writes back is its block of `array`. -/
theorem flushed_eq (c : Dev nD) (t : Fin grid0.N) :
    (dats m 0 c).flushed 7 t = ((cfg0.win 7).blk t).view.read (Elt Ideal)
      (array (V m c main_v1) (V m c main_v0) (V m c main_v2) (V m c main_v3) (V m c main_v5) (V m c main_v7) (V m c main_v9)) := by
  rw [flushed7_A, block0, block1, block2, block3, block4, block5, block6]
  funext y
  refine (out_apply c t _ _ _ _ _ _ _ _ _ _ _ _ _ _ _ _ _ _ _ _ _ _ _ y).trans ?_
  exact (congrArg (array (V m c main_v1) (V m c main_v0) (V m c main_v2) (V m c main_v3) (V m c main_v5) (V m c main_v7) (V m c main_v9)) (emb7 t y)).symm

/-- Every index of the result array lies in the block of its depth. -/
theorem covered (i : S8x14x14x14x16.Idx) : ∃ t : Fin cfg0.N, (cfg0.win 7).flush t = true ∧ i ∈ ((cfg0.win 7).blk t).view.set := by
  have hN : (i 1).val < grid0.N := by have := (i 1).isLt; have := N_0; have h : S8x14x14x14x16.size 1 = 14 := rfl; omega
  refine ⟨⟨(i 1).val, hN⟩, flush0_7 _, ?_⟩
  have h := ((cfg0.win 7).blk ⟨(i 1).val, hN⟩).view.emb_mem_set (ix5 (i 0) 0 (i 2) (i 3) (i 4) : S8x1x14x14x16.Idx)
  have e : ((cfg0.win 7).blk ⟨(i 1).val, hN⟩).view.emb (ix5 (i 0) 0 (i 2) (i 3) (i 4) : S8x1x14x14x16.Idx) = i :=
    (emb7 ⟨(i 1).val, hN⟩ _).trans (eq_ix5 i).symm
  rwa [e] at h

theorem final (c : Dev nD) : (dats m 0 c).arrAt 7 cfg0.N
    = array (V m c main_v1) (V m c main_v0) (V m c main_v2) (V m c main_v3) (V m c main_v5) (V m c main_v7) (V m c main_v9) :=
  (dats m 0 c).arrAt_eq_of_cover 7 _ (fun t _ => flushed_eq m c t) covered

end Cert.KernelIdeal.Body

end
-- ==== Proof.Equation.lean ====
/- The kernel's nested form of the series and the reference's form in powers are the same on all extended reals. -/
module

public import proofs.«01_k».proof.Proof.Block

@[expose] public section

noncomputable section

namespace Cert.Equation

open Idealize.ShloMosaic Cert.Consts

/-- An exponential is a real number or infinite. -/
theorem exp_cases (r : EReal) : Ideal.exp r = ⊤ ∨ ∃ u : ℝ, Ideal.exp r = (u : EReal) := by
  induction r with
  | bot => exact .inr ⟨0, rfl⟩
  | top => exact .inl rfl
  | coe r => exact .inr ⟨Real.exp r, rfl⟩

/-- Both forms of the series agree at every real number, and are infinite at infinity. -/
theorem series_eq (u : EReal) (h : u = ⊤ ∨ ∃ v : ℝ, u = (v : EReal)) :
    u * (1 - u * (half - u * third)) = u - u * u * (half - Ideal.div u three) := by
  have hd : Ideal.div u three = u * third := Ideal.div_coe (by norm_num : (3 : ℝ) ≠ 0) u
  rw [hd]
  obtain rfl | ⟨v, rfl⟩ := h
  · have h3 : (⊤ : EReal) * third = ⊤ := EReal.top_mul_coe_of_pos (by norm_num)
    have h2 : half - ⊤ = ⊥ := rfl
    have h1 : (1 : EReal) - ⊥ = ⊤ := rfl
    have h0 : (⊤ : EReal) - ⊥ = ⊤ := rfl
    rw [h3, h2, EReal.top_mul_top, EReal.top_mul_bot, h1, h0, EReal.top_mul_top]
  · unfold half third
    norm_cast
    ring

theorem nested_eq_scale (r : EReal) : KernelIdeal.Body.nested r = Common.scale r := by
  unfold KernelIdeal.Body.nested Common.scale
  rw [series_eq _ (exp_cases r)]

end Cert.Equation

end
-- ==== Proof.Host.lean ====
/- What the call is given, in the program's arguments, and the kernel's result as the common function of them. -/
module

public import proofs.«01_k».proof.Proof.Result
public import proofs.«01_k».proof.Proof.Equation

@[expose] public section

set_option maxRecDepth 16384

noncomputable section

namespace Cert.KernelIdeal.Body

open Cert.Common (at_ chan)
open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- A weight array, transposed. -/
def turned (x : FVec Ideal S14x14x14x432x16 .f32) : FVec Ideal S14x14x14x16x432 .bf16 :=
  truncf .bf16 (transpose S14x14x14x16x432 [0, 1, 2, 4, 3] x transposes_S14x14x14x432x16_S14x14x14x16x432_0_1_2_4_3) bitsLt_bf16_f32

theorem V_input (c : Dev nD) : V m c main_v1 = truncf (F := Ideal) .bf16 (m ((c : Thread nD τ).loc main_arg0)) bitsLt_bf16_f32 := by
  show StableHlo.after hostOps0 _ (Proc.devRef .tc main_v1) = _
  after_results

theorem V_signs_in (c : Dev nD) : V m c main_v0 = shapeCast S8x16 (m ((c : Thread nD τ).loc main_arg5)) shapeCasts_S8x1x1x1x16_S8x16 := by
  show StableHlo.after hostOps0 _ (Proc.devRef .tc main_v0) = _
  after_results
  rfl

theorem V_signs_out (c : Dev nD) : V m c main_v2 = shapeCast S8x16 (m ((c : Thread nD τ).loc main_arg6)) shapeCasts_S8x1x1x1x16_S8x16 := by
  show StableHlo.after hostOps0 _ (Proc.devRef .tc main_v2) = _
  after_results
  rfl

theorem V_bias (c : Dev nD) : V m c main_v3 = shapeCast S1x16 (m ((c : Thread nD τ).loc main_arg3)) shapeCasts_S16_S1x16 := by
  show StableHlo.after hostOps0 _ (Proc.devRef .tc main_v3) = _
  after_results
  rfl

theorem V_loc (c : Dev nD) : V m c main_v5 = turned (m ((c : Thread nD τ).loc main_arg1)) := by
  show StableHlo.after hostOps0 _ (Proc.devRef .tc main_v5) = _
  after_results
  rfl

theorem V_rho (c : Dev nD) : V m c main_v7 = turned (m ((c : Thread nD τ).loc main_arg2)) := by
  show StableHlo.after hostOps0 _ (Proc.devRef .tc main_v7) = _
  after_results
  rfl

theorem V_noise (c : Dev nD) : V m c main_v9 = turned (m ((c : Thread nD τ).loc main_arg4)) := by
  show StableHlo.after hostOps0 _ (Proc.devRef .tc main_v9) = _
  after_results
  rfl

theorem turned_apply (x : FVec Ideal S14x14x14x432x16 .f32) (d h w : Fin 14) (f : Fin 16) (p : Fin 432) :
    turned x (ix5 d h w f p) = x (ix5 d h w p f) := by
  pointwise [turned]

theorem truncf_eq (x : FVec Ideal S8x16x16x16x16 .f32) : truncf (F := Ideal) .bf16 x bitsLt_bf16_f32 = x := by
  funext j
  pointwise []

theorem signs_flat (x : FVec Ideal S8x1x1x1x16 .f32) (b : Fin 8) (f : Fin 16) :
    shapeCast S8x16 x shapeCasts_S8x1x1x1x16_S8x16 (ix2 b f) = x (ix5 b 0 0 0 f) := by
  pointwise []

theorem bias_flat (x : FVec Ideal S16 .f32) (f : Fin 16) : shapeCast S1x16 x shapeCasts_S16_S1x16 (ix2 0 f) = x (ix1 f) := by
  pointwise []

/-- The result array is the common function of the arguments. -/
theorem array_eq (x : FVec Ideal S8x16x16x16x16 .f32) (loc rho : FVec Ideal S14x14x14x432x16 .f32) (bias : FVec Ideal S16 .f32)
    (noise : FVec Ideal S14x14x14x432x16 .f32) (si so : FVec Ideal S8x1x1x1x16 .f32) :
    array (truncf .bf16 x bitsLt_bf16_f32) (shapeCast S8x16 si shapeCasts_S8x1x1x1x16_S8x16) (shapeCast S8x16 so shapeCasts_S8x1x1x1x16_S8x16)
        (shapeCast S1x16 bias shapeCasts_S16_S1x16) (turned loc) (turned rho) (turned noise)
      = Common.value x loc rho bias noise si so := by
  funext j
  obtain ⟨b, d, h, w, f, rfl⟩ : ∃ b d h w f, j = ix5 b d h w f := ⟨_, _, _, _, _, eq_ix5 j⟩
  show number d _ _ _ _ (slab d (turned loc)) (slab d (turned rho)) (slab d (turned noise)) b h w f = _
  rw [truncf_eq]
  have hs : ∀ (y : FVec Ideal S14x14x14x432x16 .f32) (p : Fin 432), slab d (turned y) (ix5 0 h w f p) = y (ix5 d h w p f) :=
    fun y p => turned_apply y d h w f p
  simp only [number, hs, signs_flat, bias_flat, Equation.nested_eq_scale]
  rfl

/-- The kernel terminates with the result at the common function of the arguments, and the arguments unchanged. -/
theorem run : θ_run defs (onTc (τ := τ) (main (F := Ideal))) ⟨m, fun _ => 0, ρ⟩ fun r => ∀ c : Dev nD,
      r.2.mem ((c : Thread nD τ).loc main_v10)
        = Common.value (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (by
    rw [V_input, V_signs_in, V_signs_out, V_bias, V_loc, V_rho, V_noise]
    exact array_eq _ _ _ _ _ _ _)), (h c).2⟩) (run_blocks m ρ)

end Cert.KernelIdeal.Body

end
-- ==== Proof.Reference.lean ====
/- What the reference computes, number by number: `Common.value` of its arguments. -/
module

public import proofs.«01_k».proof.Proof.Common
public import proofs.«01_k».proof.Proof.Gen.ReferenceIdeal.Run
public import Idealize.ShloMosaic.Lib.Tactic

@[expose] public section

set_option maxRecDepth 16384

noncomputable section

namespace Cert.ReferenceIdeal.Read

open Cert.Common (at_ chan)
open Idealize.ShloMosaic.Tactic
open Cert.ReferenceIdeal Cert.ReferenceIdeal.Gen Idealize.ShloMosaic Idealize.ShloMosaic.TcCoe Idealize.SL.Sem

theorem slices_tap : ∀ a b k : Fin 3, S8x16x16x16x16.Slices ![0, a.val, b.val, k.val, 0] S8x14x14x14x16 := by decide

/-- One of the 27 shifted windows of the input. -/
def tap (x : FVec Ideal S8x16x16x16x16 .f32) (a b k : Fin 3) : FVec Ideal S8x14x14x14x16 .f32 :=
  extractStridedSlice S8x14x14x14x16 ![0, a.val, b.val, k.val, 0] x (slices_tap a b k)

/-- Window number `n` of the 27. -/
def tapOf (x : FVec Ideal S8x16x16x16x16 .f32) (n : Nat) : FVec Ideal S8x14x14x14x16 .f32 :=
  tap x ⟨n / 9 % 3, by omega⟩ ⟨n / 3 % 3, by omega⟩ ⟨n % 3, by omega⟩

/-- The patches: the windows side by side, the first 16 and the last 11. -/
def patches (x : FVec Ideal S8x16x16x16x16 .f32) : FVec Ideal S8x14x14x14x432 .f32 :=
  concatenate S8x14x14x14x432 4
    [⟨S8x14x14x14x256, concatenate S8x14x14x14x256 4
        (List.ofFn fun n : Fin 16 => (⟨S8x14x14x14x16, tapOf x n.val⟩ : (s : Shape) × (s.Idx → Elt Ideal .f32)))
        concatenates_S8x14x14x14x16_S8x14x14x14x16_S8x14x14x14x16_S8x14x14x14x16_S8x14x14x14x16_S8x14x14x14x16_S8x14x14x14x16_S8x14x14x14x16_S8x14x14x14x16_S8x14x14x14x16_S8x14x14x14x16_S8x14x14x14x16_S8x14x14x14x16_S8x14x14x14x16_S8x14x14x14x16_S8x14x14x14x16_S8x14x14x14x256_d4⟩,
     ⟨S8x14x14x14x176, concatenate S8x14x14x14x176 4
        (List.ofFn fun n : Fin 11 => (⟨S8x14x14x14x16, tapOf x (16 + n.val)⟩ : (s : Shape) × (s.Idx → Elt Ideal .f32)))
        concatenates_S8x14x14x14x16_S8x14x14x14x16_S8x14x14x14x16_S8x14x14x14x16_S8x14x14x14x16_S8x14x14x14x16_S8x14x14x14x16_S8x14x14x14x16_S8x14x14x14x16_S8x14x14x14x16_S8x14x14x14x16_S8x14x14x14x176_d4⟩]
    concatenates_S8x14x14x14x256_S8x14x14x14x176_S8x14x14x14x432_d4

/-- The locally connected convolution. -/
def conv (x : FVec Ideal S8x16x16x16x16 .f32) (w : FVec Ideal S14x14x14x432x16 .f32) : FVec Ideal S8x14x14x14x16 .f32 :=
  transpose S8x14x14x14x16 [4, 0, 1, 2, 3]
    (Host.dotGeneral dot_S14x14x14x432x16_S8x14x14x14x432_S14x14x14x16x8_3_4_4_0_012_123 none w (patches x))
    transposes_S14x14x14x16x8_S8x14x14x14x16_4_0_1_2_3

/-- The weights' perturbation. -/
def perturb (rho noise : FVec Ideal S14x14x14x432x16 .f32) : FVec Ideal S14x14x14x432x16 .f32 :=
  mulf (addf (broadcastInDim S14x14x14x432x16 ![] bcast_S_S14x14x14x432x16 (constant S_ .f32 0x3727C5AC#32))
    (subf (Host.exp rho) (mulf (mulf (Host.exp rho) (Host.exp rho))
      (subf (broadcastInDim S14x14x14x432x16 ![] bcast_S_S14x14x14x432x16 (constant S_ .f32 0x3F000000#32))
        (Host.divf (Host.exp rho) (broadcastInDim S14x14x14x432x16 ![] bcast_S_S14x14x14x432x16 (constant S_ .f32 0x40400000#32)))))))
    noise

/-- The input times its signs. -/
def signed (x : FVec Ideal S8x16x16x16x16 .f32) (s : FVec Ideal S8x1x1x1x16 .f32) : FVec Ideal S8x16x16x16x16 .f32 :=
  mulf x (broadcastInDim S8x16x16x16x16 ![0, 1, 2, 3, 4] bcast_S8x1x1x1x16_S8x16x16x16x16_0_1_2_3_4 s)

/-- The result of the reference. -/
def result (x : FVec Ideal S8x16x16x16x16 .f32) (loc rho : FVec Ideal S14x14x14x432x16 .f32) (bias : FVec Ideal S16 .f32)
    (noise : FVec Ideal S14x14x14x432x16 .f32) (si so : FVec Ideal S8x1x1x1x16 .f32) : FVec Ideal S8x14x14x14x16 .f32 :=
  addf (addf (conv x loc)
      (mulf (conv (signed x si) (perturb rho noise))
        (broadcastInDim S8x14x14x14x16 ![0, 1, 2, 3, 4] bcast_S8x1x1x1x16_S8x14x14x14x16_0_1_2_3_4 so)))
    (broadcastInDim S8x14x14x14x16 ![0, 1, 2, 3, 4] bcast_S1x1x1x1x16_S8x14x14x14x16_0_1_2_3_4
      (broadcastInDim S1x1x1x1x16 ![4] bcast_S16_S1x1x1x1x16_4 bias))

variable (m : (ℓ : Loc nD τ sig) → Buf (Elt Ideal) ℓ)

theorem result_eq (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  sl_kernel_rfl

theorem tap_apply (x : FVec Ideal S8x16x16x16x16 .f32) (a b k : Fin 3) (n : Fin 8) (d h w : Fin 14) (c : Fin 16) :
    tap x a b k (ix5 n d h w c) = x (ix5 n ⟨a.val + d.val, by omega⟩ ⟨b.val + h.val, by omega⟩ ⟨k.val + w.val, by omega⟩ c) := by
  pointwise [tap]

theorem tapOf_apply (x : FVec Ideal S8x16x16x16x16 .f32) (b : Fin 8) (d h w : Fin 14) (p : Fin 432) (n : Nat) (hn : n = p.val / 16) :
    tapOf x n (ix5 b d h w (chan p)) = x (at_ b d h w p) := by
  subst hn
  unfold tapOf
  rw [tap_apply]
  unfold at_ chan
  congr 2 <;> (apply Fin.ext; simp only []; omega)

theorem patches_apply (x : FVec Ideal S8x16x16x16x16 .f32) (b : Fin 8) (d h w : Fin 14) (p : Fin 432) :
    patches x (ix5 b d h w p) = x (at_ b d h w p) := by
  unfold patches
  by_cases hp : p.val < 256
  · have hn : p.val / 16 < 16 := by omega
    refine (concatenate_pair_apply_left (t := S8x14x14x14x432) (s₁ := S8x14x14x14x256) (s₂ := S8x14x14x14x176) 4 _ _ _ (ix5 b d h w p) rfl
      (ix5 b d h w ⟨p.val, hp⟩) (by intro e; fin_cases e <;> rfl)).trans ?_
    refine (concatenate_ofFn_apply (t := S8x14x14x14x256) (s₁ := S8x14x14x14x16) 4 (fun n : Fin 16 => tapOf x n.val) _ rfl 16 rfl
      (ix5 b d h w ⟨p.val, hp⟩) ⟨p.val / 16, hn⟩ rfl (ix5 b d h w (chan p)) rfl
      (by intro e he; fin_cases e <;> first | rfl | exact absurd rfl he)).trans ?_
    exact tapOf_apply x b d h w p _ rfl
  · have hq : p.val - 256 < 176 := by omega
    have hn : (p.val - 256) / 16 < 11 := by omega
    refine (concatenate_pair_apply_right (t := S8x14x14x14x432) (s₁ := S8x14x14x14x256) (s₂ := S8x14x14x14x176) 4 _ _ _ (ix5 b d h w p) rfl rfl
      (ix5 b d h w ⟨p.val - 256, hq⟩) (by intro e he; fin_cases e <;> first | rfl | exact absurd rfl he)
      (show p.val - 256 + 256 = p.val by omega)).trans ?_
    refine (concatenate_ofFn_apply (t := S8x14x14x14x176) (s₁ := S8x14x14x14x16) 4 (fun n : Fin 11 => tapOf x (16 + n.val)) _ rfl 16 rfl
      (ix5 b d h w ⟨p.val - 256, hq⟩) ⟨(p.val - 256) / 16, hn⟩ rfl (ix5 b d h w (chan p)) (show p.val % 16 = (p.val - 256) % 16 by omega)
      (by intro e he; fin_cases e <;> first | rfl | exact absurd rfl he)).trans ?_
    exact tapOf_apply x b d h w p _ (show 16 + (p.val - 256) / 16 = p.val / 16 by omega)

theorem conv_apply (x : FVec Ideal S8x16x16x16x16 .f32) (wt : FVec Ideal S14x14x14x432x16 .f32) (b : Fin 8) (d h w : Fin 14) (f : Fin 16) :
    conv x wt (ix5 b d h w f) = ∑ p : Fin 432, x (at_ b d h w p) * wt (ix5 d h w p f) := by
  simp only [← patches_apply x]
  unfold conv
  generalize patches x = v
  pointwise []
  exact Finset.sum_congr rfl fun p _ => mul_comm _ _

theorem perturb_apply (rho noise : FVec Ideal S14x14x14x432x16 .f32) (d h w : Fin 14) (p : Fin 432) (f : Fin 16) :
    perturb rho noise (ix5 d h w p f) = Common.scale (rho (ix5 d h w p f)) * noise (ix5 d h w p f) := by
  pointwise [perturb, Common.scale, Consts.eps_f32, Consts.half_f32, Consts.three_f32]

theorem signed_apply (x : FVec Ideal S8x16x16x16x16 .f32) (s : FVec Ideal S8x1x1x1x16 .f32) (n : Fin 8) (d h w c : Fin 16) :
    signed x s (ix5 n d h w c) = x (ix5 n d h w c) * s (ix5 n 0 0 0 c) := by
  pointwise [signed]

theorem signed_at (x : FVec Ideal S8x16x16x16x16 .f32) (s : FVec Ideal S8x1x1x1x16 .f32) (b : Fin 8) (d h w : Fin 14) (p : Fin 432) :
    signed x s (at_ b d h w p) = x (at_ b d h w p) * s (ix5 b 0 0 0 (chan p)) :=
  signed_apply x s b _ _ _ _

/-- The reference's result is the common function of the arguments. -/
theorem result_apply (x : FVec Ideal S8x16x16x16x16 .f32) (loc rho : FVec Ideal S14x14x14x432x16 .f32) (bias : FVec Ideal S16 .f32)
    (noise : FVec Ideal S14x14x14x432x16 .f32) (si so : FVec Ideal S8x1x1x1x16 .f32) :
    result x loc rho bias noise si so = Common.value x loc rho bias noise si so := by
  funext j
  obtain ⟨b, d, h, w, f, rfl⟩ : ∃ b d h w f, j = ix5 b d h w f := ⟨_, _, _, _, _, eq_ix5 j⟩
  pointwise [result]
  simp only [conv_apply, signed_at, perturb_apply]
  rfl

end Cert.ReferenceIdeal.Read

end
-- ==== Proof.Softplus.lean ====
/- softplus and its series: the logarithm of reference.py's softplus and the series of the kernel differ by at most the
   fourth-order remainder `u⁴/4`, `u = exp rho`. -/
module

public import proofs.«01_k».proof.Proof.Common
public import Mathlib.Analysis.SpecialFunctions.ExpDeriv
public import Mathlib.Analysis.SpecialFunctions.Log.Basic
public import Mathlib.Analysis.Calculus.Deriv.Inverse
public import Mathlib.Analysis.Calculus.Deriv.MeanValue

@[expose] public section

noncomputable section

namespace Cert.Softplus

open Idealize.ShloMosaic Cert.Consts

/-- The logarithm less the polynomial. -/
def gap (u : ℝ) : ℝ := Real.log (1 + u) - (u - u * u * (1 / 2 - u / 3))

/-- The derivative of the logarithm, from that of the exponential. -/
theorem hasDerivAt_log (y : ℝ) (hy : 0 < y) : HasDerivAt Real.log (1 / y) y := by
  have he : HasDerivAt Real.exp y (Real.log y) := by simpa [Real.exp_log hy] using Real.hasDerivAt_exp (Real.log y)
  have h := HasDerivAt.of_local_left_inverse (Real.continuousAt_log hy.ne') he hy.ne'
    ((eventually_gt_nhds hy).mono fun z hz => Real.exp_log hz)
  simpa using h

/-- The logarithm less the polynomial, plus `k u⁴`, has the derivative `4 k u³ - u³ / (1 + u)`. -/
theorem hasDerivAt_gap (k u : ℝ) (hu : 0 ≤ u) :
    HasDerivAt (fun v => gap v + k * v ^ 4) (4 * k * u ^ 3 - u ^ 3 / (1 + u)) u := by
  have h0 : 0 < 1 + u := by positivity
  have h1 := h0.ne'
  have hl : HasDerivAt (fun v : ℝ => Real.log (1 + v)) (1 / (1 + u)) u :=
    ((hasDerivAt_log _ h0).comp u ((hasDerivAt_id u).const_add 1)).congr_deriv (mul_one _)
  have hp : HasDerivAt (fun v : ℝ => v - v ^ 2 / 2 + v ^ 3 / 3) (1 - u + u ^ 2) u := by
    refine (((hasDerivAt_id u).sub ((hasDerivAt_pow 2 u).div_const 2)).add ((hasDerivAt_pow 3 u).div_const 3)).congr_deriv ?_
    norm_num
  have hq : HasDerivAt (fun v : ℝ => k * v ^ 4) (k * (4 * u ^ 3)) u :=
    ((hasDerivAt_pow 4 u).const_mul k).congr_deriv (by norm_num)
  refine (((hl.sub hp).add hq).congr_deriv ?_).congr_of_eventuallyEq (Filter.Eventually.of_forall fun v => ?_)
  · field_simp
    ring
  · simp only [gap, Pi.add_apply, Pi.sub_apply]
    ring

theorem gap_zero : gap 0 = 0 := by simp [gap]

/-- The polynomial is above the logarithm. -/
theorem gap_nonpos (u : ℝ) (hu : 0 ≤ u) : gap u ≤ 0 := by
  have h : AntitoneOn (fun v => gap v + 0 * v ^ 4) (Set.Ici 0) := by
    refine antitoneOn_of_deriv_nonpos (convex_Ici 0) (fun v hv => (hasDerivAt_gap 0 v hv).continuousAt.continuousWithinAt)
      (fun v hv => ?_) fun v hv => ?_
    · exact (hasDerivAt_gap 0 v (interior_subset hv)).differentiableAt.differentiableWithinAt
    · have hv' : 0 ≤ v := interior_subset hv
      rw [(hasDerivAt_gap 0 v hv').deriv]
      have : 0 ≤ v ^ 3 / (1 + v) := by positivity
      linarith
  have := h (Set.mem_Ici.2 le_rfl) (Set.mem_Ici.2 hu) hu
  simpa [gap_zero] using this

/-- The polynomial is above the logarithm by at most `u⁴/4`. -/
theorem gap_ge (u : ℝ) (hu : 0 ≤ u) : -(u ^ 4 / 4) ≤ gap u := by
  have h : MonotoneOn (fun v => gap v + (1 / 4) * v ^ 4) (Set.Ici 0) := by
    refine monotoneOn_of_deriv_nonneg (convex_Ici 0) (fun v hv => (hasDerivAt_gap _ v hv).continuousAt.continuousWithinAt)
      (fun v hv => ?_) fun v hv => ?_
    · exact (hasDerivAt_gap _ v (interior_subset hv)).differentiableAt.differentiableWithinAt
    · have hv' : 0 ≤ v := interior_subset hv
      rw [(hasDerivAt_gap _ v hv').deriv]
      have : v ^ 3 / (1 + v) ≤ v ^ 3 := div_le_self (by positivity) (by linarith)
      linarith
  have := h (Set.mem_Ici.2 le_rfl) (Set.mem_Ici.2 hu) hu
  norm_num [gap_zero] at this
  linarith

/-- softplus as reference.py's library writes it, `max(r, 0) + log(1 + exp(-|r|))`. -/
def soft (r : ℝ) : ℝ := max r 0 + Real.log (1 + Real.exp (-|r|))

theorem soft_eq (r : ℝ) : soft r = Real.log (1 + Real.exp r) := by
  unfold soft
  rcases le_total 0 r with h | h
  · rw [max_eq_left h, abs_of_nonneg h]
    have e : 1 + Real.exp r = Real.exp r * (1 + Real.exp (-r)) := by
      rw [mul_add, ← Real.exp_add]; simp [add_comm]
    rw [e, Real.log_mul (Real.exp_pos r).ne' (by positivity), Real.log_exp]
  · rw [max_eq_right h, abs_of_nonpos h, neg_neg, zero_add]

/-- The series at a real `rho`. -/
def poly (r : ℝ) : ℝ := Real.exp r - Real.exp r * Real.exp r * (1 / 2 - Real.exp r / 3)

/-- The bound of their distance. -/
def rest (r : ℝ) : ℝ := Real.exp r * Real.exp r * Real.exp r * Real.exp r / 4

/-- softplus and its series differ by at most the remainder. -/
theorem near (r : ℝ) : |poly r - soft r| ≤ rest r := by
  have hu := (Real.exp_pos r).le
  have h1 := gap_nonpos _ hu
  have h2 := gap_ge _ hu
  rw [soft_eq]
  unfold poly rest
  unfold gap at h1 h2
  rw [abs_le]
  constructor <;> nlinarith

/-- The offset of the scale. -/
def offset : ℝ := 2748779 / 274877906944

theorem scale_coe (r : ℝ) : Common.scale (r : EReal) = ((offset + poly r : ℝ) : EReal) := by
  have hd : Ideal.div (Ideal.exp (r : EReal)) three = Ideal.exp (r : EReal) * ((1 / 3 : ℝ) : EReal) :=
    Ideal.div_coe (by norm_num : (3 : ℝ) ≠ 0) _
  unfold Common.scale
  rw [hd, Ideal.exp_coe]
  unfold eps half offset poly
  norm_cast
  ring_nf

end Cert.Softplus

end
-- ==== Proof.Near.lean ====
module

public import proofs.«01_k».proof.Proof.Softplus
public import Idealize.ShloMosaic.Lib.Pointwise

@[expose] public section

set_option maxRecDepth 16384

noncomputable section

namespace Cert.Near

open Cert.Common (at_ chan)
open Cert.Post_near_exact Idealize.ShloMosaic

variable [Facts]

/-- The absolute value of an extended real. -/
def size (a : EReal) : EReal := max a (-a)

theorem coe_max (a b : ℝ) : ((max a b : ℝ) : EReal) = max (a : EReal) (b : EReal) :=
  EReal.coe_strictMono.monotone.map_max

theorem size_coe (r : ℝ) : size (r : EReal) = ((|r| : ℝ) : EReal) := by
  unfold size
  rw [← EReal.coe_neg, ← coe_max]
  rfl

/-- softplus at a real number is the real softplus. -/
theorem softplus_apply (rho : FVec Ideal S14x14x14x432x16 .f32) (j : S14x14x14x432x16.Idx) (r : ℝ) (hr : rho j = (r : EReal)) :
    fn_softplus (F := Ideal) rho j = ((Softplus.soft r : ℝ) : EReal) := by
  have h : fn_softplus (F := Ideal) rho j
      = max (rho j) 0 + Ideal.log1p (Ideal.exp (-size (rho j - 0))) := by
    pointwise [fn_softplus, size]
    exact if_neg fun hn => hn rfl
  rw [h, hr, sub_zero, size_coe, ← EReal.coe_neg, Ideal.exp_coe]
  have hp : 0 < 1 + Real.exp (-|r|) := by positivity
  have hl : Ideal.log1p ((Real.exp (-|r|) : ℝ) : EReal) = ((Real.log (1 + Real.exp (-|r|)) : ℝ) : EReal) := by
    unfold Ideal.log1p
    rw [← EReal.coe_one, ← EReal.coe_add, Ideal.log_coe, if_neg hp.not_ge]
  rw [hl, ← EReal.coe_zero, ← coe_max, ← EReal.coe_add]
  rfl

theorem slices_shift : ∀ j k : Fin 3, S8x14x16x16x16.Slices ![0, 0, j.val, k.val, 0] S8x14x14x14x16 := by decide

theorem slices_depth : ∀ i : Fin 3, S8x16x16x16x16.Slices ![0, i.val, 0, 0, 0] S8x14x16x16x16 := by decide

/-- Shift number `n` of the nine of a plane. -/
def shift (x : FVec Ideal S8x14x16x16x16 .f32) (n : Fin 9) : FVec Ideal S8x14x14x14x16 .f32 :=
  extractStridedSlice S8x14x14x14x16 ![0, 0, (⟨n.val / 3, by omega⟩ : Fin 3).val, (⟨n.val % 3, by omega⟩ : Fin 3).val, 0] x
    (slices_shift ⟨n.val / 3, by omega⟩ ⟨n.val % 3, by omega⟩)

/-- The depths from `i` on. -/
def depths (x : FVec Ideal S8x16x16x16x16 .f32) (i : Fin 3) : FVec Ideal S8x14x16x16x16 .f32 :=
  extractStridedSlice S8x14x16x16x16 ![0, i.val, 0, 0, 0] x (slices_depth i)

theorem shift_apply (x : FVec Ideal S8x14x16x16x16 .f32) (n : Fin 9) (b : Fin 8) (d h w : Fin 14) (c : Fin 16) :
    shift x n (ix5 b d h w c) = x (ix5 b d ⟨h.val + n.val / 3, by omega⟩ ⟨w.val + n.val % 3, by omega⟩ c) := by
  pointwise [shift]
  congr 2 <;> (apply Fin.ext; simp only []; omega)

theorem depths_apply (x : FVec Ideal S8x16x16x16x16 .f32) (i : Fin 3) (b : Fin 8) (d : Fin 14) (h w c : Fin 16) :
    depths x i (ix5 b d h w c) = x (ix5 b ⟨d.val + i.val, by omega⟩ h w c) := by
  pointwise [depths]
  congr 2 <;> (apply Fin.ext; simp only []; omega)

theorem plane_eq (x : FVec Ideal S8x14x16x16x16 .f32) :
    fn_plane (F := Ideal) x = concatenate S8x14x14x14x144 4
      (List.ofFn fun n : Fin 9 => (⟨S8x14x14x14x16, shift x n⟩ : (s : Shape) × (s.Idx → Elt Ideal .f32)))
      Facts.concatenates_S8x14x14x14x16_S8x14x14x14x16_S8x14x14x14x16_S8x14x14x14x16_S8x14x14x14x16_S8x14x14x14x16_S8x14x14x14x16_S8x14x14x14x16_S8x14x14x14x16_S8x14x14x14x144_d4 :=
  rfl

/-- Entry `q` of a plane's patch. -/
theorem plane_apply (x : FVec Ideal S8x14x16x16x16 .f32) (b : Fin 8) (d h w : Fin 14) (q : Fin 144) :
    fn_plane (F := Ideal) x (ix5 b d h w q)
      = x (ix5 b d ⟨h.val + q.val / 48, by omega⟩ ⟨w.val + q.val / 16 % 3, by omega⟩ ⟨q.val % 16, by omega⟩) := by
  rw [plane_eq]
  refine (concatenate_ofFn_apply (t := S8x14x14x14x144) (s₁ := S8x14x14x14x16) 4 (fun n : Fin 9 => shift x n) _ rfl 16 rfl
    (ix5 b d h w q) ⟨q.val / 16, by omega⟩ rfl (ix5 b d h w ⟨q.val % 16, by omega⟩) rfl
    (by intro e he; fin_cases e <;> first | rfl | exact absurd rfl he)).trans ?_
  rw [shift_apply]
  congr 2
  apply Fin.ext
  show h.val + q.val / 16 / 3 = h.val + q.val / 48
  omega

/-- All patches: the planes from the three depths, side by side. -/
def patches (x : FVec Ideal S8x16x16x16x16 .f32) : FVec Ideal S8x14x14x14x432 .f32 :=
  concatenate S8x14x14x14x432 4
    (List.ofFn fun i : Fin 3 => (⟨S8x14x14x14x144, fn_plane (F := Ideal) (depths x i)⟩ : (s : Shape) × (s.Idx → Elt Ideal .f32)))
    Facts.concatenates_S8x14x14x14x144_S8x14x14x14x144_S8x14x14x14x144_S8x14x14x14x432_d4

theorem patches_apply (x : FVec Ideal S8x16x16x16x16 .f32) (b : Fin 8) (d h w : Fin 14) (p : Fin 432) :
    patches x (ix5 b d h w p) = x (at_ b d h w p) := by
  unfold patches
  refine (concatenate_ofFn_apply (t := S8x14x14x14x432) (s₁ := S8x14x14x14x144) 4 (fun i : Fin 3 => fn_plane (F := Ideal) (depths x i)) _ rfl
    144 rfl (ix5 b d h w p) ⟨p.val / 144, by omega⟩ rfl (ix5 b d h w ⟨p.val % 144, by omega⟩) rfl
    (by intro e he; fin_cases e <;> first | rfl | exact absurd rfl he)).trans ?_
  rw [plane_apply, depths_apply]
  unfold at_
  congr 2 <;> (apply Fin.ext; simp only []; omega)

theorem conv_apply (x : FVec Ideal S8x16x16x16x16 .f32) (wt : FVec Ideal S14x14x14x432x16 .f32) (b : Fin 8) (d h w : Fin 14) (f : Fin 16) :
    fn_conv (F := Ideal) x wt (ix5 b d h w f) = ∑ p : Fin 432, x (at_ b d h w p) * wt (ix5 d h w p f) := by
  have h0 : fn_conv (F := Ideal) x wt = transpose S8x14x14x14x16 [4, 0, 1, 2, 3]
    (Host.dotGeneral dot_S14x14x14x432x16_S8x14x14x14x432_S14x14x14x16x8_3_4_4_0_012_123 none wt (patches x))
    Facts.transposes_S14x14x14x16x8_S8x14x14x14x16_4_0_1_2_3 := rfl
  simp only [← patches_apply x]
  rw [h0]
  generalize patches x = v
  pointwise []
  exact Finset.sum_congr rfl fun p _ => mul_comm _ _

theorem conv_0_apply (x : FVec Ideal S8x16x16x16x16 .f32) (wt : FVec Ideal S14x14x14x432x16 .f32) (b : Fin 8) (d h w : Fin 14) (f : Fin 16) :
    fn_conv_0 (F := Ideal) x wt (ix5 b d h w f) = ∑ p : Fin 432, x (at_ b d h w p) * wt (ix5 d h w p f) :=
  conv_apply x wt b d h w f

theorem four_f32 : Ideal.ofBits .f32 0x40800000#32 = ((4 : ℝ) : EReal) := by
  simp [Ideal.ofBits, Ideal.ieee, -EReal.coe_mul]; norm_num

/-- The room that the predicate grants at one place. -/
def room (x : FVec Ideal S8x16x16x16x16 .f32) (rho noise : FVec Ideal S14x14x14x432x16 .f32) (si so : FVec Ideal S8x1x1x1x16 .f32)
    (b : Fin 8) (d h w : Fin 14) (f : Fin 16) : EReal :=
  (∑ p : Fin 432, size (x (at_ b d h w p) * si (ix5 b 0 0 0 (chan p)))
      * (Ideal.div (Ideal.exp (rho (ix5 d h w p f)) * Ideal.exp (rho (ix5 d h w p f)) * Ideal.exp (rho (ix5 d h w p f))
            * Ideal.exp (rho (ix5 d h w p f))) ((4 : ℝ) : EReal) * size (noise (ix5 d h w p f))))
    * size (so (ix5 b 0 0 0 f))

/-- What reference.py computes at one place. -/
def exact_ (x : FVec Ideal S8x16x16x16x16 .f32) (loc rho : FVec Ideal S14x14x14x432x16 .f32) (bias : FVec Ideal S16 .f32)
    (noise : FVec Ideal S14x14x14x432x16 .f32) (si so : FVec Ideal S8x1x1x1x16 .f32) (b : Fin 8) (d h w : Fin 14) (f : Fin 16) : EReal :=
  (∑ p : Fin 432, x (at_ b d h w p) * loc (ix5 d h w p f))
    + (∑ p : Fin 432, (x (at_ b d h w p) * si (ix5 b 0 0 0 (chan p)))
          * ((Consts.eps + fn_softplus (F := Ideal) rho (ix5 d h w p f)) * noise (ix5 d h w p f)))
        * so (ix5 b 0 0 0 f)
    + bias (ix1 f)

/-- The input times its signs. -/
def signed (x : FVec Ideal S8x16x16x16x16 .f32) (s : FVec Ideal S8x1x1x1x16 .f32) : FVec Ideal S8x16x16x16x16 .f32 :=
  mulf x (broadcastInDim S8x16x16x16x16 ![0, 1, 2, 3, 4] Facts.bcast_S8x1x1x1x16_S8x16x16x16x16_0_1_2_3_4 s)

/-- The remainder times the noise's size. -/
def remainder (rho noise : FVec Ideal S14x14x14x432x16 .f32) : FVec Ideal S14x14x14x432x16 .f32 :=
  mulf (Host.divf (mulf (mulf (mulf (Host.exp rho) (Host.exp rho)) (Host.exp rho)) (Host.exp rho))
    (broadcastInDim S14x14x14x432x16 ![] Facts.bcast_S_S14x14x14x432x16 (constant S_ .f32 0x40800000#32))) (Host.absf noise)

/-- The exact scale times the noise. -/
def perturb (rho noise : FVec Ideal S14x14x14x432x16 .f32) : FVec Ideal S14x14x14x432x16 .f32 :=
  mulf (addf (broadcastInDim S14x14x14x432x16 ![] Facts.bcast_S_S14x14x14x432x16 (constant S_ .f32 0x3727C5AC#32))
    (fn_softplus (F := Ideal) rho)) noise

theorem signed_apply (x : FVec Ideal S8x16x16x16x16 .f32) (s : FVec Ideal S8x1x1x1x16 .f32) (n : Fin 8) (d h w c : Fin 16) :
    signed x s (ix5 n d h w c) = x (ix5 n d h w c) * s (ix5 n 0 0 0 c) := by
  pointwise [signed]

theorem signed_at (x : FVec Ideal S8x16x16x16x16 .f32) (s : FVec Ideal S8x1x1x1x16 .f32) (b : Fin 8) (d h w : Fin 14) (p : Fin 432) :
    signed x s (at_ b d h w p) = x (at_ b d h w p) * s (ix5 b 0 0 0 (chan p)) :=
  signed_apply x s b _ _ _ _

theorem remainder_apply (rho noise : FVec Ideal S14x14x14x432x16 .f32) (j : S14x14x14x432x16.Idx) :
    remainder rho noise j = Ideal.div (Ideal.exp (rho j) * Ideal.exp (rho j) * Ideal.exp (rho j) * Ideal.exp (rho j)) ((4 : ℝ) : EReal)
      * size (noise j) := by
  pointwise [remainder, four_f32]
  rfl

theorem perturb_apply (rho noise : FVec Ideal S14x14x14x432x16 .f32) (j : S14x14x14x432x16.Idx) :
    perturb rho noise j = (Consts.eps + fn_softplus (F := Ideal) rho j) * noise j := by
  pointwise [perturb, Consts.eps_f32]

/-- The room as an array. -/
def roomArray (x : FVec Ideal S8x16x16x16x16 .f32) (rho noise : FVec Ideal S14x14x14x432x16 .f32) (si so : FVec Ideal S8x1x1x1x16 .f32) :
    FVec Ideal S8x14x14x14x16 .f32 :=
  mulf (fn_conv (F := Ideal) (Host.absf (signed x si)) (remainder rho noise))
    (broadcastInDim S8x14x14x14x16 ![0, 1, 2, 3, 4] Facts.bcast_S8x1x1x1x16_S8x14x14x14x16_0_1_2_3_4 (Host.absf so))

/-- reference.py's result as an array. -/
def exactArray (x : FVec Ideal S8x16x16x16x16 .f32) (loc rho : FVec Ideal S14x14x14x432x16 .f32) (bias : FVec Ideal S16 .f32)
    (noise : FVec Ideal S14x14x14x432x16 .f32) (si so : FVec Ideal S8x1x1x1x16 .f32) : FVec Ideal S8x14x14x14x16 .f32 :=
  addf (addf (fn_conv_0 (F := Ideal) x loc)
      (mulf (fn_conv (F := Ideal) (signed x si) (perturb rho noise))
        (broadcastInDim S8x14x14x14x16 ![0, 1, 2, 3, 4] Facts.bcast_S8x1x1x1x16_S8x14x14x14x16_0_1_2_3_4 so)))
    (broadcastInDim S8x14x14x14x16 ![0, 1, 2, 3, 4] Facts.bcast_S1x1x1x1x16_S8x14x14x14x16_0_1_2_3_4
      (broadcastInDim S1x1x1x1x16 ![4] Facts.bcast_S16_S1x1x1x1x16_4 bias))

theorem roomArray_apply (x : FVec Ideal S8x16x16x16x16 .f32) (rho noise : FVec Ideal S14x14x14x432x16 .f32) (si so : FVec Ideal S8x1x1x1x16 .f32)
    (b : Fin 8) (d h w : Fin 14) (f : Fin 16) : roomArray x rho noise si so (ix5 b d h w f) = room x rho noise si so b d h w f := by
  have hs : ∀ j, Host.absf (signed x si) j = size (signed x si j) := fun _ => rfl
  have ho : ∀ j, Host.absf so j = size (so j) := fun _ => rfl
  unfold room
  pointwise [roomArray]
  simp only [conv_apply, hs, signed_at, remainder_apply]
  rfl

theorem exactArray_apply (x : FVec Ideal S8x16x16x16x16 .f32) (loc rho : FVec Ideal S14x14x14x432x16 .f32) (bias : FVec Ideal S16 .f32)
    (noise : FVec Ideal S14x14x14x432x16 .f32) (si so : FVec Ideal S8x1x1x1x16 .f32) (b : Fin 8) (d h w : Fin 14) (f : Fin 16) :
    exactArray x loc rho bias noise si so (ix5 b d h w f) = exact_ x loc rho bias noise si so b d h w f := by
  unfold exact_
  pointwise [exactArray]
  simp only [conv_apply, conv_0_apply, signed_at, perturb_apply]

/-- The predicate is met where at every place the distance is at most the room. -/
theorem fn_of_le (x : FVec Ideal S8x16x16x16x16 .f32) (loc rho : FVec Ideal S14x14x14x432x16 .f32) (bias : FVec Ideal S16 .f32)
    (noise : FVec Ideal S14x14x14x432x16 .f32) (si so : FVec Ideal S8x1x1x1x16 .f32) (out : FVec Ideal S8x14x14x14x16 .f32)
    (hle : ∀ (b : Fin 8) (d h w : Fin 14) (f : Fin 16),
      size (out (ix5 b d h w f) - exact_ x loc rho bias noise si so b d h w f) ≤ room x rho noise si so b d h w f) :
    fn (F := Ideal) x loc rho bias noise si so out = fun _ => 1#1 := by
  have hfn : fn (F := Ideal) x loc rho bias noise si so out
      = cmpf .ole (Host.absf (subf out (exactArray x loc rho bias noise si so))) (roomArray x rho noise si so) := rfl
  rw [hfn]
  funext j
  obtain ⟨b, d, h, w, f, rfl⟩ : ∃ b d h w f, j = ix5 b d h w f := ⟨_, _, _, _, _, eq_ix5 j⟩
  refine (Ideal.cmp_ole_eq_one _ _).2 ?_
  rw [roomArray_apply]
  refine le_of_eq_of_le ?_ (hle b d h w f)
  rw [← exactArray_apply]
  rfl

end Cert.Near

end
-- ==== Proof.Bound.lean ====
/- At finite arguments the common function of kernel and reference differs from what reference.py computes with softplus itself by
   at most the room that the predicate grants. -/
module

public import proofs.«01_k».proof.Proof.Near

@[expose] public section

noncomputable section

namespace Cert.Bound

open Cert.Common (at_ chan)
open Idealize.ShloMosaic

/-! ## The precondition: every argument is finite -/

theorem top_f32 : Ideal.ofBits .f32 0x7F800000#32 = (⊤ : EReal) := by simp [Ideal.ofBits, Ideal.ieee]

/-- An extended real of size below infinity is a real number. -/
theorem real_of_size_lt (a : EReal) (h : Near.size a < ⊤) : ∃ r : ℝ, a = (r : EReal) := by
  induction a with
  | bot => exact absurd h (by simp [Near.size])
  | top => exact absurd h (by simp [Near.size])
  | coe r => exact ⟨r, rfl⟩

/-- An array whose sizes all compare below infinity is an array of real numbers. -/
theorem reals {s : Shape} (x y : FVec Ideal s .f32) (hy : ∀ i, y i = (⊤ : EReal)) (h : cmpf .olt (Host.absf x) y = fun _ => 1#1) :
    ∃ v : s.Idx → ℝ, x = fun i => (v i : EReal) := by
  have : ∀ i, ∃ r : ℝ, x i = (r : EReal) := fun i => by
    have hi : Ideal.cmp .olt (Near.size (x i)) (y i) = 1#1 := congrFun h i
    have := (Ideal.cmp_olt_eq_one _ _).1 hi
    rw [hy i] at this
    exact real_of_size_lt _ this
  choose v hv using this
  exact ⟨v, funext hv⟩

/-! ## The bound, over the reals -/

theorem coe_sum {n : Nat} (g : Fin n → ℝ) : ((∑ p, g p : ℝ) : EReal) = ∑ p, (g p : EReal) := by
  induction n with
  | zero => simp
  | succ n ih => rw [Fin.sum_univ_succ, Fin.sum_univ_succ, EReal.coe_add, ih]

/-- Two sums of products whose second factors differ by at most a bound each. -/
theorem sum_near {n : Nat} (x y z t noise : Fin n → ℝ) (h : ∀ p, |y p - z p| ≤ t p) :
    |∑ p, x p * (y p * noise p) - ∑ p, x p * (z p * noise p)| ≤ ∑ p, |x p| * (t p * |noise p|) := by
  rw [← Finset.sum_sub_distrib]
  refine (Finset.abs_sum_le_sum_abs _ _).trans (Finset.sum_le_sum fun p _ => ?_)
  have e : x p * (y p * noise p) - x p * (z p * noise p) = x p * ((y p - z p) * noise p) := by ring
  rw [e, abs_mul, abs_mul]
  exact mul_le_mul_of_nonneg_left (mul_le_mul_of_nonneg_right (h p) (abs_nonneg _)) (abs_nonneg _)

/-- The result with a scale given weight by weight, over the reals, at one place. -/
def blend (m x c noise : Fin 432 → ℝ) (so bias : ℝ) : ℝ := (∑ p, m p) + (∑ p, x p * (c p * noise p)) * so + bias

theorem blend_near (m x y z t noise : Fin 432 → ℝ) (so bias : ℝ) (h : ∀ p, |y p - z p| ≤ t p) :
    |blend m x y noise so bias - blend m x z noise so bias| ≤ (∑ p, |x p| * (t p * |noise p|)) * |so| := by
  have e : blend m x y noise so bias - blend m x z noise so bias
      = (∑ p, x p * (y p * noise p) - ∑ p, x p * (z p * noise p)) * so := by unfold blend; ring
  rw [e, abs_mul]
  exact mul_le_mul_of_nonneg_right (sum_near x y z t noise h) (abs_nonneg _)

section Arrays

open Cert.Post_near_exact

variable [Facts]
variable (x : S8x16x16x16x16.Idx → ℝ) (loc rho noise : S14x14x14x432x16.Idx → ℝ) (bias : S16.Idx → ℝ) (si so : S8x1x1x1x16.Idx → ℝ)
variable (b : Fin 8) (d h w : Fin 14) (f : Fin 16)

/-- An array of real numbers as one of extended reals. -/
abbrev up {s : Shape} (v : s.Idx → ℝ) : FVec Ideal s .f32 := fun i => (v i : EReal)

theorem value_up : Common.value (up x) (up loc) (up rho) (up bias) (up noise) (up si) (up so) (ix5 b d h w f)
    = ((blend (fun p => x (at_ b d h w p) * loc (ix5 d h w p f)) (fun p => x (at_ b d h w p) * si (ix5 b 0 0 0 (chan p)))
        (fun p => Softplus.offset + Softplus.poly (rho (ix5 d h w p f))) (fun p => noise (ix5 d h w p f)) (so (ix5 b 0 0 0 f))
        (bias (ix1 f)) : ℝ) : EReal) := by
  unfold blend Common.value up
  simp only [Softplus.scale_coe, EReal.coe_add, EReal.coe_mul, coe_sum]
  rfl

theorem exact_up : Near.exact_ (up x) (up loc) (up rho) (up bias) (up noise) (up si) (up so) b d h w f
    = ((blend (fun p => x (at_ b d h w p) * loc (ix5 d h w p f)) (fun p => x (at_ b d h w p) * si (ix5 b 0 0 0 (chan p)))
        (fun p => Softplus.offset + Softplus.soft (rho (ix5 d h w p f))) (fun p => noise (ix5 d h w p f)) (so (ix5 b 0 0 0 f))
        (bias (ix1 f)) : ℝ) : EReal) := by
  unfold blend Near.exact_
  simp only [Near.softplus_apply (up rho) _ _ rfl]
  simp only [EReal.coe_add, EReal.coe_mul, coe_sum]
  rfl

theorem room_up : Near.room (up x) (up rho) (up noise) (up si) (up so) b d h w f
    = (((∑ p, |x (at_ b d h w p) * si (ix5 b 0 0 0 (chan p))| * (Softplus.rest (rho (ix5 d h w p f)) * |noise (ix5 d h w p f)|))
        * |so (ix5 b 0 0 0 f)| : ℝ) : EReal) := by
  have hr : ∀ r : ℝ, Ideal.div (Ideal.exp (r : EReal) * Ideal.exp (r : EReal) * Ideal.exp (r : EReal) * Ideal.exp (r : EReal)) ((4 : ℝ) : EReal)
      = ((Softplus.rest r : ℝ) : EReal) := fun r => by
    rw [Ideal.div_coe (by norm_num : (4 : ℝ) ≠ 0), Ideal.exp_coe]
    unfold Softplus.rest
    norm_cast
    ring_nf
  unfold Near.room
  simp only [hr, ← EReal.coe_mul, Near.size_coe]
  rw [← coe_sum, ← EReal.coe_mul]

/-- The distance is at most the room, at every place. -/
theorem le_room : Near.size (Common.value (up x) (up loc) (up rho) (up bias) (up noise) (up si) (up so) (ix5 b d h w f)
      - Near.exact_ (up x) (up loc) (up rho) (up bias) (up noise) (up si) (up so) b d h w f)
    ≤ Near.room (up x) (up rho) (up noise) (up si) (up so) b d h w f := by
  rw [value_up, exact_up, room_up, ← EReal.coe_sub, Near.size_coe, EReal.coe_le_coe_iff]
  refine blend_near _ _ _ _ _ _ _ _ fun p => ?_
  rw [add_sub_add_left_eq_sub]
  exact Softplus.near _

end Arrays

end Cert.Bound

end
-- ==== Proof.lean ====
/- The proof of the certificate's claim: the frames of the three programs, the two named constants of the kernel, and the
   equation of kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Post_near_exact
public import proofs.«01_k».proof.Proof.Host
public import proofs.«01_k».proof.Proof.Reference
public import proofs.«01_k».proof.Proof.Bound
public import Idealize.ShloMosaic.Adequacy
public import Idealize.ShloMosaic.Init

@[expose] public section

noncomputable section

namespace Cert.Proof

open Idealize.ShloMosaic Idealize.SL.Sem Cert.Kernel

/-- The reference terminates and leaves its arguments unchanged; it has no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- The two named constants of the kernel are the numbers that the idealised kernel reads for them. -/
theorem preserves : Cert.preserves_Kernel_KernelIdeal :=
  ⟨IdealRules.named_const.statement Cert.KernelIdeal.κ "third" .bf16 0x3EAB#16 _ rfl,
   IdealRules.named_const.statement Cert.KernelIdeal.κ "eps" .bf16 0x3728#16 _ rfl⟩

/-- Kernel and reference both end with the common function of the arguments. -/
theorem algebraic : Cert.algebraic_KernelIdeal_ReferenceIdeal := by
  intro m g m' g' _ hag
  refine ⟨fun c => Common.value (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)), Cert.KernelIdeal.Body.run m g, ?_⟩
  refine (θ_run _ _ _).mono (fun r h c => ⟨(h c).1.trans ?_, (h c).2⟩) (Cert.ReferenceIdeal.Value.run m' g')
  obtain ⟨h0, h1, h2, h3, h4, h5, h6⟩ := hag c
  refine (Cert.ReferenceIdeal.Read.result_eq m' c).trans ?_
  rw [h0, h1, h2, h3, h4, h5, h6]
  exact Cert.ReferenceIdeal.Read.result_apply _ _ _ _ _ _ _

/-- The precondition says that every argument is an array of real numbers. -/
theorem finite (x : FVec Ideal Cert.Pre_finite.S8x16x16x16x16 .f32) (loc rho : FVec Ideal Cert.Pre_finite.S14x14x14x432x16 .f32)
    (bias : FVec Ideal Cert.Pre_finite.S16 .f32) (noise : FVec Ideal Cert.Pre_finite.S14x14x14x432x16 .f32)
    (si so : FVec Ideal Cert.Pre_finite.S8x1x1x1x16 .f32)
    (h : (Cert.Pre_finite.fn (F := Ideal) x loc rho bias noise si so).1 = (fun _ => 1#1)
      ∧ (Cert.Pre_finite.fn (F := Ideal) x loc rho bias noise si so).2.1 = (fun _ => 1#1)
      ∧ (Cert.Pre_finite.fn (F := Ideal) x loc rho bias noise si so).2.2.1 = (fun _ => 1#1)
      ∧ (Cert.Pre_finite.fn (F := Ideal) x loc rho bias noise si so).2.2.2.1 = (fun _ => 1#1)
      ∧ (Cert.Pre_finite.fn (F := Ideal) x loc rho bias noise si so).2.2.2.2.1 = (fun _ => 1#1)
      ∧ (Cert.Pre_finite.fn (F := Ideal) x loc rho bias noise si so).2.2.2.2.2.1 = (fun _ => 1#1)
      ∧ (Cert.Pre_finite.fn (F := Ideal) x loc rho bias noise si so).2.2.2.2.2.2 = (fun _ => 1#1)) :
    (∃ v, x = Bound.up v) ∧ (∃ v, loc = Bound.up v) ∧ (∃ v, rho = Bound.up v) ∧ (∃ v, bias = Bound.up v)
      ∧ (∃ v, noise = Bound.up v) ∧ (∃ v, si = Bound.up v) ∧ (∃ v, so = Bound.up v) := by
  obtain ⟨h0, h1, h2, h3, h4, h5, h6⟩ := h
  exact ⟨Bound.reals x _ (fun _ => Bound.top_f32) h0, Bound.reals loc _ (fun _ => Bound.top_f32) h1,
    Bound.reals rho _ (fun _ => Bound.top_f32) h2, Bound.reals bias _ (fun _ => Bound.top_f32) h3,
    Bound.reals noise _ (fun _ => Bound.top_f32) h4, Bound.reals si _ (fun _ => Bound.top_f32) h5,
    Bound.reals so _ (fun _ => Bound.top_f32) h6⟩

/-- At finite arguments the common function is near reference.py's result. -/
theorem near (x : FVec Ideal Cert.Pre_finite.S8x16x16x16x16 .f32) (loc rho : FVec Ideal Cert.Pre_finite.S14x14x14x432x16 .f32)
    (bias : FVec Ideal Cert.Pre_finite.S16 .f32) (noise : FVec Ideal Cert.Pre_finite.S14x14x14x432x16 .f32)
    (si so : FVec Ideal Cert.Pre_finite.S8x1x1x1x16 .f32)
    (h : (∃ v, x = Bound.up v) ∧ (∃ v, loc = Bound.up v) ∧ (∃ v, rho = Bound.up v) ∧ (∃ v, bias = Bound.up v)
      ∧ (∃ v, noise = Bound.up v) ∧ (∃ v, si = Bound.up v) ∧ (∃ v, so = Bound.up v)) :
    Cert.Post_near_exact.fn (F := Ideal) x loc rho bias noise si so (Common.value x loc rho bias noise si so) = fun _ => 1#1 := by
  obtain ⟨⟨x, rfl⟩, ⟨loc, rfl⟩, ⟨rho, rfl⟩, ⟨bias, rfl⟩, ⟨noise, rfl⟩, ⟨si, rfl⟩, ⟨so, rfl⟩⟩ := h
  exact Near.fn_of_le _ _ _ _ _ _ _ _ fun b d h w f => Bound.le_room x loc rho noise bias si so b d h w f

/-- The kernel's result is near reference.py's, where the arguments are finite. -/
theorem holds : Cert.holds_KernelIdeal_near_exact_pre_finite := by
  intro m g hpre
  refine (θ_run _ _ _).mono (fun r h c => ?_) (Cert.KernelIdeal.Body.run m g)
  obtain ⟨hv, h0, h1, h2, h3, h4, h5, h6⟩ := h c
  refine ⟨h0, h1, h2, h3, h4, h5, h6, ?_⟩
  rw [hv]
  exact near _ _ _ _ _ _ _ (finite _ _ _ _ _ _ _ (hpre c))

theorem claim : Cert.Claim := ⟨Cert.Kernel.Gen.facts, Cert.KernelIdeal.Gen.facts, Cert.ReferenceIdeal.Gen.facts,
  Cert.Pre_finite.Gen.facts, Cert.Post_near_exact.Gen.facts,
  fun m ρ _ => Cert.Kernel.Gen.frame m ρ, fun m ρ _ => Cert.KernelIdeal.Gen.frame m ρ, fun m ρ _ => Cert.KernelIdeal.Gen.frame m ρ,
  frame_reference, preserves, algebraic, holds⟩

end Cert.Proof

end
